-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_permute [hPre_rows_permute : Cert.Pre_rows_permute.Facts] (m : (ℓ : Loc Cert.KernelIdeal.nD Cert.KernelIdeal.τ Cert.KernelIdeal.sig) → Buf (Elt Ideal) ℓ) : Prop :=
  ∀ c : Dev Cert.KernelIdeal.nD,
    (Cert.Pre_rows_permute.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_permute [hPre_rows_permute : Cert.Pre_rows_permute.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_permute.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_rows_permute [hKernelIdeal : Cert.KernelIdeal.Facts] [hPre_rows_permute : Cert.Pre_rows_permute.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_permute m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_rows_permute [hReferenceIdeal : Cert.ReferenceIdeal.Facts] [hPre_rows_permute : Cert.Pre_rows_permute.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_permute m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_rows_permute [hKernelIdeal : Cert.KernelIdeal.Facts] [hReferenceIdeal : Cert.ReferenceIdeal.Facts] [hPre_rows_permute : Cert.Pre_rows_permute.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_permute m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v0_16) = v1 c
          ∧ r.2.mem ((c.tc : Thread Cert.ReferenceIdeal.nD Cert.ReferenceIdeal.τ).loc Cert.ReferenceIdeal.main_v0_17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_rows_permute : Cert.Pre_rows_permute.Facts),
    quiescent_Kernel (hKernel := hKernel)
    ∧ quiescent_KernelIdeal (hKernelIdeal := hKernelIdeal)
    ∧ quiescent_KernelIdeal_pre_rows_permute (hKernelIdeal := hKernelIdeal) (hPre_rows_permute := hPre_rows_permute)
    ∧ quiescent_ReferenceIdeal (hReferenceIdeal := hReferenceIdeal)
    ∧ quiescent_ReferenceIdeal_pre_rows_permute (hReferenceIdeal := hReferenceIdeal) (hPre_rows_permute := hPre_rows_permute)
    ∧ preserves_Kernel_KernelIdeal
    ∧ algebraic_KernelIdeal_ReferenceIdeal_pre_rows_permute (hKernelIdeal := hKernelIdeal) (hReferenceIdeal := hReferenceIdeal) (hPre_rows_permute := hPre_rows_permute)
-- ==== Pre_rows_permute.lean ====
abbrev S20x256x2 : Shape := ⟨3, ![20, 256, 2]⟩
abbrev S256x128 : Shape := ⟨2, ![256, 128]⟩
abbrev S5120x5 : Shape := ⟨2, ![5120, 5]⟩
abbrev S20x256x256x16 : Shape := ⟨4, ![20, 256, 256, 16]⟩
abbrev S20x256 : Shape := ⟨2, ![20, 256]⟩
abbrev S2x64 : Shape := ⟨2, ![2, 64]⟩
abbrev S64 : Shape := ⟨1, ![64]⟩
abbrev S2048x64 : Shape := ⟨2, ![2048, 64]⟩
abbrev S512x128 : Shape := ⟨2, ![512, 128]⟩
abbrev S512 : Shape := ⟨1, ![512]⟩
abbrev S5x128 : Shape := ⟨2, ![5, 128]⟩
abbrev S5 : Shape := ⟨1, ![5]⟩
abbrev S256 : Shape := ⟨1, ![256]⟩
abbrev S1x256 : Shape := ⟨2, ![1, 256]⟩
abbrev S_ : Shape := ⟨0, ![]⟩

class Facts : Prop where
  bcast_S256_S1x256_1 : S256.BroadcastsInDim S1x256 (![1] : Fin 1 → Fin S1x256.rank)
  bcast_S1x256_S20x256_0_1 : S1x256.BroadcastsInDim S20x256 (![0, 1] : Fin 2 → Fin S20x256.rank)
  reducesTo_S20x256_S_d0_1 : S20x256.ReducesTo [0, 1] S_
  h_S_ : 0 < S_.numel

variable [Facts]

def comparator_i32_d1 : BitVec 32 → BitVec 32 → BitVec 1 :=
  fun l r =>
    let v1 := IntOp.cmpi .slt l r
    v1
def fn_sort {F : FTy → Type} [FloatOps F] (arg0 : IVec S20x256 32) : IVec S20x256 32 :=
  let v0 : IVec S20x256 32 := (fun x => Host.sort S20x256 1 comparator_i32_d1 x) arg0
  v0

def fn {F : FTy → Type} [FloatOps F] (main_arg0 : FVec F S20x256x2 .f32) (main_arg1 : FVec F S256x128 .f32) (main_arg2 : FVec F S256x128 .f32) (main_arg3 : FVec F S5120x5 .f32) (main_arg4 : FVec F S20x256x256x16 .f32) (main_arg5 : IVec S20x256 32) (main_arg6 : FVec F S2x64 .f32) (main_arg7 : FVec F S64 .f32) (main_arg8 : FVec F S2048x64 .f32) (main_arg9 : FVec F S64 .f32) (main_arg10 : FVec F S512x128 .f32) (main_arg11 : FVec F S512 .f32) (main_arg12 : FVec F S512x128 .f32) (main_arg13 : FVec F S512 .f32) (main_arg14 : FVec F S5x128 .f32) (main_arg15 : FVec F S5 .f32) : IVec S_ 1 :=
  let main_v0 : IVec S20x256 32 := fn_sort (F := F) main_arg5
  let main_v1 : IVec S256 32 := iotaInDim S256 32 0
  let main_v2 : IVec S1x256 32 := broadcastInDim S1x256 ![1] bcast_S256_S1x256_1 main_v1
  let main_v3 : IVec S20x256 32 := broadcastInDim S20x256 ![0, 1] bcast_S1x256_S20x256_0_1 main_v2
  let main_v4 : IVec S20x256 1 := cmpi .eq main_v0 main_v3
  let main_c : IVec S_ 1 := constantI S_ 1 1#1
  let main_v5 : IVec S_ 1 := (fun x v => Host.reduce IntOp.andi x v reducesTo_S20x256_S_d0_1 h_S_) main_v4 main_c
  main_v5
-- ==== Kernel.lean ====
abbrev S20x256x2 : Shape := ⟨3, ![20, 256, 2]⟩
abbrev S256x128 : Shape := ⟨2, ![256, 128]⟩
abbrev S5120x5 : Shape := ⟨2, ![5120, 5]⟩
abbrev S20x256x256x16 : Shape := ⟨4, ![20, 256, 256, 16]⟩
abbrev S20x256 : Shape := ⟨2, ![20, 256]⟩
abbrev S2x64 : Shape := ⟨2, ![2, 64]⟩
abbrev S64 : Shape := ⟨1, ![64]⟩
abbrev S2048x64 : Shape := ⟨2, ![2048, 64]⟩
abbrev S512x128 : Shape := ⟨2, ![512, 128]⟩
abbrev S512 : Shape := ⟨1, ![512]⟩
abbrev S5x128 : Shape := ⟨2, ![5, 128]⟩
abbrev S5 : Shape := ⟨1, ![5]⟩
abbrev S20x16x256x256 : Shape := ⟨4, ![20, 16, 256, 256]⟩
abbrev S20x4096x256 : Shape := ⟨3, ![20, 4096, 256]⟩
abbrev S20x1x256 : Shape := ⟨3, ![20, 1, 256]⟩
abbrev S20x256x1 : Shape := ⟨3, ![20, 256, 1]⟩
abbrev S1x256 : Shape := ⟨2, ![1, 256]⟩
abbrev S19x256 : Shape := ⟨2, ![19, 256]⟩
abbrev S_ : Shape := ⟨0, ![]⟩
abbrev S19x256x1 : Shape := ⟨3, ![19, 256, 1]⟩
abbrev S1 : Shape := ⟨1, ![1]⟩
abbrev S1x1x1 : Shape := ⟨3, ![1, 1, 1]⟩
abbrev S1x64 : Shape := ⟨2, ![1, 64]⟩
abbrev S128x512 : Shape := ⟨2, ![128, 512]⟩
abbrev S1x512 : Shape := ⟨2, ![1, 512]⟩
abbrev S128x5 : Shape := ⟨2, ![128, 5]⟩
abbrev S1x5 : Shape := ⟨2, ![1, 5]⟩
abbrev S20x256x5 : Shape := ⟨3, ![20, 256, 5]⟩
abbrev S1x4096x256 : Shape := ⟨3, ![1, 4096, 256]⟩
abbrev S1x256x2 : Shape := ⟨3, ![1, 256, 2]⟩
abbrev S1x1x256 : Shape := ⟨3, ![1, 1, 256]⟩
abbrev S1x256x1 : Shape := ⟨3, ![1, 256, 1]⟩
abbrev S1x256x5 : Shape := ⟨3, ![1, 256, 5]⟩
abbrev S256x1 : Shape := ⟨2, ![256, 1]⟩
abbrev S256x256 : Shape := ⟨2, ![256, 256]⟩
abbrev S256x2 : Shape := ⟨2, ![256, 2]⟩
abbrev S4096x256 : Shape := ⟨2, ![4096, 256]⟩
abbrev S4096x128 : Shape := ⟨2, ![4096, 128]⟩
abbrev S256x2048 : Shape := ⟨2, ![256, 2048]⟩
abbrev S256x64 : Shape := ⟨2, ![256, 64]⟩
abbrev S256x512 : Shape := ⟨2, ![256, 512]⟩
abbrev S256x5 : Shape := ⟨2, ![256, 5]⟩

abbrev nBuf : Space → Nat
  | .hbm => 62
  | .vmem => 26
  | .smem => 0
  | _ => 0

abbrev bufTy : (tb : Table) → Fin (tcTables nBuf tb) → BufTy
  | .hbm, ⟨0, _⟩ => ⟨S20x256x2, .f32⟩
  | .hbm, ⟨1, _⟩ => ⟨S256x128, .f32⟩
  | .hbm, ⟨2, _⟩ => ⟨S256x128, .f32⟩
  | .hbm, ⟨3, _⟩ => ⟨S5120x5, .f32⟩
  | .hbm, ⟨4, _⟩ => ⟨S20x256x256x16, .f32⟩
  | .hbm, ⟨5, _⟩ => ⟨S20x256, .i32⟩
  | .hbm, ⟨6, _⟩ => ⟨S2x64, .f32⟩
  | .hbm, ⟨7, _⟩ => ⟨S64, .f32⟩
  | .hbm, ⟨8, _⟩ => ⟨S2048x64, .f32⟩
  | .hbm, ⟨9, _⟩ => ⟨S64, .f32⟩
  | .hbm, ⟨10, _⟩ => ⟨S512x128, .f32⟩
  | .hbm, ⟨11, _⟩ => ⟨S512, .f32⟩
  | .hbm, ⟨12, _⟩ => ⟨S512x128, .f32⟩
  | .hbm, ⟨13, _⟩ => ⟨S512, .f32⟩
  | .hbm, ⟨14, _⟩ => ⟨S5x128, .f32⟩
  | .hbm, ⟨15, _⟩ => ⟨S5, .f32⟩
  | .hbm, ⟨16, _⟩ => ⟨S20x256x256x16, .bf16⟩
  | .hbm, ⟨17, _⟩ => ⟨S20x16x256x256, .bf16⟩
  | .hbm, ⟨18, _⟩ => ⟨S20x4096x256, .bf16⟩
  | .hbm, ⟨19, _⟩ => ⟨S20x1x256, .i32⟩
  | .hbm, ⟨20, _⟩ => ⟨S20x256x1, .i32⟩
  | .hbm, ⟨21, _⟩ => ⟨S20x256, .i32⟩
  | .hbm, ⟨22, _⟩ => ⟨S20x256, .i32⟩
  | .hbm, ⟨23, _⟩ => ⟨S20x256, .i32⟩
  | .hbm, ⟨24, _⟩ => ⟨S1x256, .i32⟩
  | .hbm, ⟨25, _⟩ => ⟨S19x256, .i32⟩
  | .hbm, ⟨26, _⟩ => ⟨S19x256, .i32⟩
  | .hbm, ⟨27, _⟩ => ⟨S_, .i32⟩
  | .hbm, ⟨28, _⟩ => ⟨S19x256, .i32⟩
  | .hbm, ⟨29, _⟩ => ⟨S19x256, .i1⟩
  | .hbm, ⟨30, _⟩ => ⟨S_, .i32⟩
  | .hbm, ⟨31, _⟩ => ⟨S19x256, .i32⟩
  | .hbm, ⟨32, _⟩ => ⟨S19x256, .i32⟩
  | .hbm, ⟨33, _⟩ => ⟨S19x256, .i32⟩
  | .hbm, ⟨34, _⟩ => ⟨S19x256x1, .i32⟩
  | .hbm, ⟨35, _⟩ => ⟨S1, .i32⟩
  | .hbm, ⟨36, _⟩ => ⟨S_, .i32⟩
  | .hbm, ⟨37, _⟩ => ⟨S19x256x1, .i32⟩
  | .hbm, ⟨38, _⟩ => ⟨S19x256x1, .i1⟩
  | .hbm, ⟨39, _⟩ => ⟨S1x1x1, .i32⟩
  | .hbm, ⟨40, _⟩ => ⟨S19x256x1, .i32⟩
  | .hbm, ⟨41, _⟩ => ⟨S19x256x1, .i1⟩
  | .hbm, ⟨42, _⟩ => ⟨S19x256x1, .i1⟩
  | .hbm, ⟨43, _⟩ => ⟨S_, .i1⟩
  | .hbm, ⟨44, _⟩ => ⟨S19x256, .i1⟩
  | .hbm, ⟨45, _⟩ => ⟨S19x256, .i32⟩
  | .hbm, ⟨46, _⟩ => ⟨S_, .i32⟩
  | .hbm, ⟨47, _⟩ => ⟨S19x256, .i32⟩
  | .hbm, ⟨48, _⟩ => ⟨S19x256, .i32⟩
  | .hbm, ⟨49, _⟩ => ⟨S20x256, .i32⟩
  | .hbm, ⟨50, _⟩ => ⟨S20x256x1, .i32⟩
  | .hbm, ⟨51, _⟩ => ⟨S1x64, .f32⟩
  | .hbm, ⟨52, _⟩ => ⟨S1x64, .f32⟩
  | .hbm, ⟨53, _⟩ => ⟨S128x512, .f32⟩
  | .hbm, ⟨54, _⟩ => ⟨S1x512, .f32⟩
  | .hbm, ⟨55, _⟩ => ⟨S128x512, .f32⟩
  | .hbm, ⟨56, _⟩ => ⟨S1x512, .f32⟩
  | .hbm, ⟨57, _⟩ => ⟨S128x5, .f32⟩
  | .hbm, ⟨58, _⟩ => ⟨S1x5, .f32⟩
  | .hbm, ⟨59, _⟩ => ⟨S20x256x5, .f32⟩
  | .hbm, ⟨60, _⟩ => ⟨S256x128, .f32⟩
  | .hbm, ⟨61, _⟩ => ⟨S256x128, .f32⟩
  | .local _ .vmem, ⟨0, _⟩ => ⟨S1x4096x256, .bf16⟩
  | .local _ .vmem, ⟨1, _⟩ => ⟨S1x4096x256, .bf16⟩
  | .local _ .vmem, ⟨2, _⟩ => ⟨S1x256x2, .f32⟩
  | .local _ .vmem, ⟨3, _⟩ => ⟨S1x256x2, .f32⟩
  | .local _ .vmem, ⟨4, _⟩ => ⟨S1x1x256, .i32⟩
  | .local _ .vmem, ⟨5, _⟩ => ⟨S1x1x256, .i32⟩
  | .local _ .vmem, ⟨6, _⟩ => ⟨S1x256x1, .i32⟩
  | .local _ .vmem, ⟨7, _⟩ => ⟨S1x256x1, .i32⟩
  | .local _ .vmem, ⟨8, _⟩ => ⟨S1x256x1, .i32⟩
  | .local _ .vmem, ⟨9, _⟩ => ⟨S1x256x1, .i32⟩
  | .local _ .vmem, ⟨10, _⟩ => ⟨S256x128, .f32⟩
  | .local _ .vmem, ⟨11, _⟩ => ⟨S256x128, .f32⟩
  | .local _ .vmem, ⟨12, _⟩ => ⟨S2x64, .f32⟩
  | .local _ .vmem, ⟨13, _⟩ => ⟨S1x64, .f32⟩
  | .local _ .vmem, ⟨14, _⟩ => ⟨S2048x64, .f32⟩
  | .local _ .vmem, ⟨15, _⟩ => ⟨S1x64, .f32⟩
  | .local _ .vmem, ⟨16, _⟩ => ⟨S128x512, .f32⟩
  | .local _ .vmem, ⟨17, _⟩ => ⟨S1x512, .f32⟩
  | .local _ .vmem, ⟨18, _⟩ => ⟨S128x512, .f32⟩
  | .local _ .vmem, ⟨19, _⟩ => ⟨S1x512, .f32⟩
  | .local _ .vmem, ⟨20, _⟩ => ⟨S128x5, .f32⟩
  | .local _ .vmem, ⟨21, _⟩ => ⟨S1x5, .f32⟩
  | .local _ .vmem, ⟨22, _⟩ => ⟨S1x256x5, .f32⟩
  | .local _ .vmem, ⟨23, _⟩ => ⟨S1x256x5, .f32⟩
  | .local _ .vmem, ⟨24, _⟩ => ⟨S256x128, .f32⟩
  | .local _ .vmem, ⟨25, _⟩ => ⟨S256x128, .f32⟩
  | _, _ => ⟨S20x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call0_v0 : Ref sig .tc := ⟨.hbm, 21, rfl⟩
abbrev main_call0_v1_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_c_4 : Ref sig .tc := ⟨.hbm, 46, rfl⟩
abbrev main_call1_v14 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20_0 : Ref sig .tc := ⟨.hbm, 59, rfl⟩
abbrev main_v20_1 : Ref sig .tc := ⟨.hbm, 60, rfl⟩
abbrev main_v20_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg19_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem19_0 : DmaSem sig := 25

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c19_i32 : BitVec 32 := 19#32
  let v109 : BitVec 1 := Scalar.cmpi .slt arg0 c19_i32
  let v110 : BitVec 32 := Scalar.extui v109
  let c0_i32_53 : BitVec 32 := 0#32
  let v111 : BitVec 1 := Scalar.cmpi .ne v110 c0_i32_53
  v111

def k0_cond3 (i : grid0.Coords) : BitVec 1 :=
  let arg0 : BitVec 32 := BitVec.ofNat 32 (i 0).val
  let c19_i32_54 : BitVec 32 := 19#32
  let v112 : BitVec 1 := Scalar.cmpi .eq arg0 c19_i32_54
  let v113 : BitVec 32 := Scalar.extui v112
  let c0_i32_55 : BitVec 32 := 0#32
  let v114 : BitVec 1 := Scalar.cmpi .ne v113 c0_i32_55
  v114

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x5 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x5 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x256x5 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S256x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S20x256x2 : Shape := ⟨3, ![20, 256, 2]⟩
abbrev S256x128 : Shape := ⟨2, ![256, 128]⟩
abbrev S5120x5 : Shape := ⟨2, ![5120, 5]⟩
abbrev S20x256x256x16 : Shape := ⟨4, ![20, 256, 256, 16]⟩
abbrev S20x256 : Shape := ⟨2, ![20, 256]⟩
abbrev S2x64 : Shape := ⟨2, ![2, 64]⟩
abbrev S64 : Shape := ⟨1, ![64]⟩
abbrev S2048x64 : Shape := ⟨2, ![2048, 64]⟩
abbrev S512x128 : Shape := ⟨2, ![512, 128]⟩
abbrev S512 : Shape := ⟨1, ![512]⟩
abbrev S5x128 : Shape := ⟨2, ![5, 128]⟩
abbrev S5 : Shape := ⟨1, ![5]⟩
abbrev S_ : Shape := ⟨0, ![]⟩
abbrev S1x256 : Shape := ⟨2, ![1, 256]⟩
abbrev S256 : Shape := ⟨1, ![256]⟩
abbrev S1x256x2 : Shape := ⟨3, ![1, 256, 2]⟩
abbrev S256x2 : Shape := ⟨2, ![256, 2]⟩
abbrev S256x1 : Shape := ⟨2, ![256, 1]⟩
abbrev S1x256x256x16 : Shape := ⟨4, ![1, 256, 256, 16]⟩
abbrev S256x256x16 : Shape := ⟨3, ![256, 256, 16]⟩
abbrev S256x16x128 : Shape := ⟨3, ![256, 16, 128]⟩
abbrev S256x2048 : Shape := ⟨2, ![256, 2048]⟩
abbrev S256x64 : Shape := ⟨2, ![256, 64]⟩
abbrev S1x64 : Shape := ⟨2, ![1, 64]⟩
abbrev S128x512 : Shape := ⟨2, ![128, 512]⟩
abbrev S256x512 : Shape := ⟨2, ![256, 512]⟩
abbrev S1x512 : Shape := ⟨2, ![1, 512]⟩
abbrev S128x5 : Shape := ⟨2, ![128, 5]⟩
abbrev S256x5 : Shape := ⟨2, ![256, 5]⟩
abbrev S1x5 : Shape := ⟨2, ![1, 5]⟩
abbrev S20x256x5 : Shape := ⟨3, ![20, 256, 5]⟩

abbrev nBuf : Space → Nat
  | .hbm => 241
  | .vmem => 0
  | .smem => 0
  | _ => 0

abbrev hbmTy0_0 (i : Nat) : BufTy := match i % 128 with
  | 0 => ⟨S20x256x2, .f32⟩
  | 1 => ⟨S256x128, .f32⟩
  | 2 => ⟨S256x128, .f32⟩
  | 3 => ⟨S5120x5, .f32⟩
  | 4 => ⟨S20x256x256x16, .f32⟩
  | 5 => ⟨S20x256, .i32⟩
  | 6 => ⟨S2x64, .f32⟩
  | 7 => ⟨S64, .f32⟩
  | 8 => ⟨S2048x64, .f32⟩
  | 9 => ⟨S64, .f32⟩
  | 10 => ⟨S512x128, .f32⟩
  | 11 => ⟨S512, .f32⟩
  | 12 => ⟨S512x128, .f32⟩
  | 13 => ⟨S512, .f32⟩
  | 14 => ⟨S5x128, .f32⟩
  | 15 => ⟨S5, .f32⟩
  | 16 => ⟨S_, .i32⟩
  | 17 => ⟨S_, .i32⟩
  | 18 => ⟨S20x256, .i32⟩
  | 19 => ⟨S20x256x2, .f32⟩
  | 20 => ⟨S20x256x256x16, .f32⟩
  | 21 => ⟨S2x64, .f32⟩
  | 22 => ⟨S64, .f32⟩
  | 23 => ⟨S2048x64, .f32⟩
  | 24 => ⟨S64, .f32⟩
  | 25 => ⟨S512x128, .f32⟩
  | 26 => ⟨S512, .f32⟩
  | 27 => ⟨S512x128, .f32⟩
  | 28 => ⟨S512, .f32⟩
  | 29 => ⟨S5x128, .f32⟩
  | 30 => ⟨S5, .f32⟩
  | 31 => ⟨S_, .i32⟩
  | 32 => ⟨S_, .i32⟩
  | 33 => ⟨S5120x5, .f32⟩
  | 34 => ⟨S256x128, .f32⟩
  | 35 => ⟨S256x128, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S1x256, .i32⟩
  | 55 => ⟨S256, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S1x256x2, .f32⟩
  | 79 => ⟨S256x2, .f32⟩
  | 80 => ⟨S_, .i32⟩
  | 81 => ⟨S256, .i32⟩
  | 82 => ⟨S256, .i1⟩
  | 83 => ⟨S_, .i32⟩
  | 84 => ⟨S256, .i32⟩
  | 85 => ⟨S256, .i32⟩
  | 86 => ⟨S256, .i32⟩
  | 87 => ⟨S256x1, .i32⟩
  | 88 => ⟨S256x2, .f32⟩
  | 89 => ⟨S_, .i32⟩
  | 90 => ⟨S256, .i32⟩
  | 91 => ⟨S256, .i1⟩
  | 92 => ⟨S_, .i32⟩
  | 93 => ⟨S256, .i32⟩
  | 94 => ⟨S256, .i32⟩
  | 95 => ⟨S256, .i32⟩
  | 96 => ⟨S256x1, .i32⟩
  | 97 => ⟨S256x128, .f32⟩
  | 98 => ⟨S_, .i32⟩
  | 99 => ⟨S256, .i32⟩
  | 100 => ⟨S256, .i1⟩
  | 101 => ⟨S_, .i32⟩
  | 102 => ⟨S256, .i32⟩
  | 103 => ⟨S256, .i32⟩
  | 104 => ⟨S256, .i32⟩
  | 105 => ⟨S256x1, .i32⟩
  | 106 => ⟨S256x128, .f32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S20x256x2, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S1x256x256x16, .f32⟩
  | 10 => ⟨S256x256x16, .f32⟩
  | 11 => ⟨S256x16x128, .f32⟩
  | 12 => ⟨S256x2048, .f32⟩
  | 13 => ⟨S256x64, .f32⟩
  | 14 => ⟨S1x64, .f32⟩
  | 15 => ⟨S256x64, .f32⟩
  | 16 => ⟨S256x64, .f32⟩
  | 17 => ⟨S_, .f32⟩
  | 18 => ⟨S256x64, .f32⟩
  | 19 => ⟨S256x64, .f32⟩
  | 20 => ⟨S256x64, .f32⟩
  | 21 => ⟨S1x64, .f32⟩
  | 22 => ⟨S256x64, .f32⟩
  | 23 => ⟨S256x64, .f32⟩
  | 24 => ⟨S_, .f32⟩
  | 25 => ⟨S256x64, .f32⟩
  | 26 => ⟨S256x64, .f32⟩
  | 27 => ⟨S256x128, .f32⟩
  | 28 => ⟨S128x512, .f32⟩
  | 29 => ⟨S256x512, .f32⟩
  | 30 => ⟨S1x512, .f32⟩
  | 31 => ⟨S256x512, .f32⟩
  | 32 => ⟨S256x512, .f32⟩
  | 33 => ⟨S128x512, .f32⟩
  | 34 => ⟨S256x512, .f32⟩
  | 35 => ⟨S256x512, .f32⟩
  | 36 => ⟨S1x512, .f32⟩
  | 37 => ⟨S256x512, .f32⟩
  | 38 => ⟨S256x512, .f32⟩
  | 39 => ⟨S256x128, .f32⟩
  | 40 => ⟨S256x128, .f32⟩
  | 41 => ⟨S256x128, .f32⟩
  | 42 => ⟨S256x128, .f32⟩
  | 43 => ⟨S256x128, .f32⟩
  | 44 => ⟨S256x128, .f32⟩
  | 45 => ⟨S_, .f32⟩
  | 46 => ⟨S256x128, .f32⟩
  | 47 => ⟨S256x128, .f32⟩
  | 48 => ⟨S_, .f32⟩
  | 49 => ⟨S256x128, .f32⟩
  | 50 => ⟨S256x128, .f32⟩
  | 51 => ⟨S256x128, .f32⟩
  | 52 => ⟨S256x128, .f32⟩
  | 53 => ⟨S_, .f32⟩
  | 54 => ⟨S256x128, .f32⟩
  | 55 => ⟨S256x128, .f32⟩
  | 56 => ⟨S_, .f32⟩
  | 57 => ⟨S256x128, .f32⟩
  | 58 => ⟨S256x128, .f32⟩
  | 59 => ⟨S256x128, .f32⟩
  | 60 => ⟨S256x128, .f32⟩
  | 61 => ⟨S256x128, .f32⟩
  | 62 => ⟨S_, .f32⟩
  | 63 => ⟨S256x128, .f32⟩
  | 64 => ⟨S256x128, .f32⟩
  | 65 => ⟨S_, .f32⟩
  | 66 => ⟨S256x128, .f32⟩
  | 67 => ⟨S256x128, .f32⟩
  | 68 => ⟨S256x128, .f32⟩
  | 69 => ⟨S256x128, .f32⟩
  | 70 => ⟨S256x128, .f32⟩
  | 71 => ⟨S256x128, .f32⟩
  | 72 => ⟨S256x128, .f32⟩
  | 73 => ⟨S128x5, .f32⟩
  | 74 => ⟨S256x5, .f32⟩
  | 75 => ⟨S1x5, .f32⟩
  | 76 => ⟨S256x5, .f32⟩
  | 77 => ⟨S256x5, .f32⟩
  | 78 => ⟨S_, .i32⟩
  | 79 => ⟨S_, .i32⟩
  | 80 => ⟨S_, .i32⟩
  | 81 => ⟨S256, .i32⟩
  | 82 => ⟨S256, .i32⟩
  | 83 => ⟨S_, .i32⟩
  | 84 => ⟨S256, .i32⟩
  | 85 => ⟨S256, .i1⟩
  | 86 => ⟨S_, .i32⟩
  | 87 => ⟨S256, .i32⟩
  | 88 => ⟨S256, .i32⟩
  | 89 => ⟨S256, .i32⟩
  | 90 => ⟨S256x1, .i32⟩
  | 91 => ⟨S5120x5, .f32⟩
  | 92 => ⟨S_, .i32⟩
  | 93 => ⟨S256, .i32⟩
  | 94 => ⟨S256, .i1⟩
  | 95 => ⟨S_, .i32⟩
  | 96 => ⟨S256, .i32⟩
  | 97 => ⟨S256, .i32⟩
  | 98 => ⟨S256, .i32⟩
  | 99 => ⟨S256x1, .i32⟩
  | 100 => ⟨S256x128, .f32⟩
  | 101 => ⟨S_, .i32⟩
  | 102 => ⟨S256, .i32⟩
  | 103 => ⟨S256, .i1⟩
  | 104 => ⟨S_, .i32⟩
  | 105 => ⟨S256, .i32⟩
  | 106 => ⟨S256, .i32⟩
  | 107 => ⟨S256, .i32⟩
  | 108 => ⟨S256x1, .i32⟩
  | 109 => ⟨S256x128, .f32⟩
  | 110 => ⟨S_, .i32⟩
  | 111 => ⟨S_, .i32⟩
  | 112 => ⟨S20x256x5, .f32⟩
  | _ => ⟨S20x256x2, .f32⟩

abbrev hbmTy (i : Nat) : BufTy := match i / 128 with
  | 0 => hbmTy0_0 i
  | 1 => hbmTy0_1 i
  | _ => ⟨S20x256x2, .f32⟩

abbrev bufTy : (tb : Table) → Fin (tcTables nBuf tb) → BufTy
  | .hbm, ⟨i, _⟩ => hbmTy i
  | _, _ => ⟨S20x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev main_v0_4 : Ref sig .tc := ⟨.hbm, 22, rfl⟩
abbrev main_v0_5 : Ref sig .tc := ⟨.hbm, 23, rfl⟩
abbrev main_v0_6 : Ref sig .tc := ⟨.hbm, 24, rfl⟩
abbrev main_v0_7 : Ref sig .tc := ⟨.hbm, 25, rfl⟩
abbrev main_v0_8 : Ref sig .tc := ⟨.hbm, 26, rfl⟩
abbrev main_v0_9 : Ref sig .tc := ⟨.hbm, 27, rfl⟩
abbrev main_v0_10 : Ref sig .tc := ⟨.hbm, 28, rfl⟩
abbrev main_v0_11 : Ref sig .tc := ⟨.hbm, 29, rfl⟩
abbrev main_v0_12 : Ref sig .tc := ⟨.hbm, 30, rfl⟩
abbrev main_v0_13 : Ref sig .tc := ⟨.hbm, 31, rfl⟩
abbrev main_v0_14 : Ref sig .tc := ⟨.hbm, 32, rfl⟩
abbrev main_v0_15 : Ref sig .tc := ⟨.hbm, 33, rfl⟩
abbrev main_v0_16 : Ref sig .tc := ⟨.hbm, 34, rfl⟩
abbrev main_v0_17 : Ref sig .tc := ⟨.hbm, 35, rfl⟩
abbrev main_while0c_c_18 : Ref sig .tc := ⟨.hbm, 36, rfl⟩
abbrev main_while0c_v2 : Ref sig .tc := ⟨.hbm, 37, rfl⟩
abbrev main_while0b_c_18 : Ref sig .tc := ⟨.hbm, 38, rfl⟩
abbrev main_while0b_v2 : Ref sig .tc := ⟨.hbm, 39, rfl⟩
abbrev main_while0b_v3 : Ref sig .tc := ⟨.hbm, 40, rfl⟩
abbrev main_while0b_c_19 : Ref sig .tc := ⟨.hbm, 41, rfl⟩
abbrev main_while0b_v4 : Ref sig .tc := ⟨.hbm, 42, rfl⟩
abbrev main_while0b_c_20 : Ref sig .tc := ⟨.hbm, 43, rfl⟩
abbrev main_while0b_v5 : Ref sig .tc := ⟨.hbm, 44, rfl⟩
abbrev main_while0b_v6 : Ref sig .tc := ⟨.hbm, 45, rfl⟩
abbrev main_while0b_c_21 : Ref sig .tc := ⟨.hbm, 46, rfl⟩
abbrev main_while0b_c_22 : Ref sig .tc := ⟨.hbm, 47, rfl⟩
abbrev main_while0b_v7 : Ref sig .tc := ⟨.hbm, 48, rfl⟩
abbrev main_while0b_c_23 : Ref sig .tc := ⟨.hbm, 49, rfl⟩
abbrev main_while0b_c_24 : Ref sig .tc := ⟨.hbm, 50, rfl⟩
abbrev main_while0b_v8 : Ref sig .tc := ⟨.hbm, 51, rfl⟩
abbrev main_while0b_c_25 : Ref sig .tc := ⟨.hbm, 52, rfl⟩
abbrev main_while0b_v9 : Ref sig .tc := ⟨.hbm, 53, rfl⟩
abbrev main_while0b_v10 : Ref sig .tc := ⟨.hbm, 54, rfl⟩
abbrev main_while0b_v11 : Ref sig .tc := ⟨.hbm, 55, rfl⟩
abbrev main_while0b_v12 : Ref sig .tc := ⟨.hbm, 56, rfl⟩
abbrev main_while0b_c_26 : Ref sig .tc := ⟨.hbm, 57, rfl⟩
abbrev main_while0b_v13 : Ref sig .tc := ⟨.hbm, 58, rfl⟩
abbrev main_while0b_c_27 : Ref sig .tc := ⟨.hbm, 59, rfl⟩
abbrev main_while0b_v14 : Ref sig .tc := ⟨.hbm, 60, rfl⟩
abbrev main_while0b_v15 : Ref sig .tc := ⟨.hbm, 61, rfl⟩
abbrev main_while0b_c_28 : Ref sig .tc := ⟨.hbm, 62, rfl⟩
abbrev main_while0b_c_29 : Ref sig .tc := ⟨.hbm, 63, rfl⟩
abbrev main_while0b_v16 : Ref sig .tc := ⟨.hbm, 64, rfl⟩
abbrev main_while0b_c_30 : Ref sig .tc := ⟨.hbm, 65, rfl⟩
abbrev main_while0b_c_31 : Ref sig .tc := ⟨.hbm, 66, rfl⟩
abbrev main_while0b_v17 : Ref sig .tc := ⟨.hbm, 67, rfl⟩
abbrev main_while0b_c_32 : Ref sig .tc := ⟨.hbm, 68, rfl⟩
abbrev main_while0b_v18 : Ref sig .tc := ⟨.hbm, 69, rfl⟩
abbrev main_while0b_c_33 : Ref sig .tc := ⟨.hbm, 70, rfl⟩
abbrev main_while0b_c_34 : Ref sig .tc := ⟨.hbm, 71, rfl⟩
abbrev main_while0b_v19 : Ref sig .tc := ⟨.hbm, 72, rfl⟩
abbrev main_while0b_c_35 : Ref sig .tc := ⟨.hbm, 73, rfl⟩
abbrev main_while0b_c_36 : Ref sig .tc := ⟨.hbm, 74, rfl⟩
abbrev main_while0b_v20 : Ref sig .tc := ⟨.hbm, 75, rfl⟩
abbrev main_while0b_c_37 : Ref sig .tc := ⟨.hbm, 76, rfl⟩
abbrev main_while0b_v21 : Ref sig .tc := ⟨.hbm, 77, rfl⟩
abbrev main_while0b_v22 : Ref sig .tc := ⟨.hbm, 78, rfl⟩
abbrev main_while0b_v23 : Ref sig .tc := ⟨.hbm, 79, rfl⟩
abbrev main_while0b_c_38 : Ref sig .tc := ⟨.hbm, 80, rfl⟩
abbrev main_while0b_v24 : Ref sig .tc := ⟨.hbm, 81, rfl⟩
abbrev main_while0b_v25 : Ref sig .tc := ⟨.hbm, 82, rfl⟩
abbrev main_while0b_c_39 : Ref sig .tc := ⟨.hbm, 83, rfl⟩
abbrev main_while0b_v26 : Ref sig .tc := ⟨.hbm, 84, rfl⟩
abbrev main_while0b_v27 : Ref sig .tc := ⟨.hbm, 85, rfl⟩
abbrev main_while0b_v28 : Ref sig .tc := ⟨.hbm, 86, rfl⟩
abbrev main_while0b_v29 : Ref sig .tc := ⟨.hbm, 87, rfl⟩
abbrev main_while0b_v30 : Ref sig .tc := ⟨.hbm, 88, rfl⟩
abbrev main_while0b_c_40 : Ref sig .tc := ⟨.hbm, 89, rfl⟩
abbrev main_while0b_v31 : Ref sig .tc := ⟨.hbm, 90, rfl⟩
abbrev main_while0b_v32 : Ref sig .tc := ⟨.hbm, 91, rfl⟩
abbrev main_while0b_c_41 : Ref sig .tc := ⟨.hbm, 92, rfl⟩
abbrev main_while0b_v33 : Ref sig .tc := ⟨.hbm, 93, rfl⟩
abbrev main_while0b_v34 : Ref sig .tc := ⟨.hbm, 94, rfl⟩
abbrev main_while0b_v35 : Ref sig .tc := ⟨.hbm, 95, rfl⟩
abbrev main_while0b_v36 : Ref sig .tc := ⟨.hbm, 96, rfl⟩
abbrev main_while0b_v37 : Ref sig .tc := ⟨.hbm, 97, rfl⟩
abbrev main_while0b_c_42 : Ref sig .tc := ⟨.hbm, 98, rfl⟩
abbrev main_while0b_v38 : Ref sig .tc := ⟨.hbm, 99, rfl⟩
abbrev main_while0b_v39 : Ref sig .tc := ⟨.hbm, 100, rfl⟩
abbrev main_while0b_c_43 : Ref sig .tc := ⟨.hbm, 101, rfl⟩
abbrev main_while0b_v40 : Ref sig .tc := ⟨.hbm, 102, rfl⟩
abbrev main_while0b_v41 : Ref sig .tc := ⟨.hbm, 103, rfl⟩
abbrev main_while0b_v42 : Ref sig .tc := ⟨.hbm, 104, rfl⟩
abbrev main_while0b_v43 : Ref sig .tc := ⟨.hbm, 105, rfl⟩
abbrev main_while0b_v44 : Ref sig .tc := ⟨.hbm, 106, rfl⟩
abbrev main_while0b_v45 : Ref sig .tc := ⟨.hbm, 107, rfl⟩
abbrev main_while0b_c_44 : Ref sig .tc := ⟨.hbm, 108, rfl⟩
abbrev main_while0b_v46 : Ref sig .tc := ⟨.hbm, 109, rfl⟩
abbrev main_while0b_c_45 : Ref sig .tc := ⟨.hbm, 110, rfl⟩
abbrev main_while0b_v47 : Ref sig .tc := ⟨.hbm, 111, rfl⟩
abbrev main_while0b_v48 : Ref sig .tc := ⟨.hbm, 112, rfl⟩
abbrev main_while0b_c_46 : Ref sig .tc := ⟨.hbm, 113, rfl⟩
abbrev main_while0b_c_47 : Ref sig .tc := ⟨.hbm, 114, rfl⟩
abbrev main_while0b_v49 : Ref sig .tc := ⟨.hbm, 115, rfl⟩
abbrev main_while0b_c_48 : Ref sig .tc := ⟨.hbm, 116, rfl⟩
abbrev main_while0b_c_49 : Ref sig .tc := ⟨.hbm, 117, rfl⟩
abbrev main_while0b_v50 : Ref sig .tc := ⟨.hbm, 118, rfl⟩
abbrev main_while0b_c_50 : Ref sig .tc := ⟨.hbm, 119, rfl⟩
abbrev main_while0b_v51 : Ref sig .tc := ⟨.hbm, 120, rfl⟩
abbrev main_while0b_c_51 : Ref sig .tc := ⟨.hbm, 121, rfl⟩
abbrev main_while0b_c_52 : Ref sig .tc := ⟨.hbm, 122, rfl⟩
abbrev main_while0b_v52 : Ref sig .tc := ⟨.hbm, 123, rfl⟩
abbrev main_while0b_c_53 : Ref sig .tc := ⟨.hbm, 124, rfl⟩
abbrev main_while0b_c_54 : Ref sig .tc := ⟨.hbm, 125, rfl⟩
abbrev main_while0b_v53 : Ref sig .tc := ⟨.hbm, 126, rfl⟩
abbrev main_while0b_c_55 : Ref sig .tc := ⟨.hbm, 127, rfl⟩
abbrev main_while0b_v54 : Ref sig .tc := ⟨.hbm, 128, rfl⟩
abbrev main_while0b_c_56 : Ref sig .tc := ⟨.hbm, 129, rfl⟩
abbrev main_while0b_c_57 : Ref sig .tc := ⟨.hbm, 130, rfl⟩
abbrev main_while0b_v55 : Ref sig .tc := ⟨.hbm, 131, rfl⟩
abbrev main_while0b_c_58 : Ref sig .tc := ⟨.hbm, 132, rfl⟩
abbrev main_while0b_c_59 : Ref sig .tc := ⟨.hbm, 133, rfl⟩
abbrev main_while0b_v56 : Ref sig .tc := ⟨.hbm, 134, rfl⟩
abbrev main_while0b_c_60 : Ref sig .tc := ⟨.hbm, 135, rfl⟩
abbrev main_while0b_v57 : Ref sig .tc := ⟨.hbm, 136, rfl⟩
abbrev main_while0b_v58 : Ref sig .tc := ⟨.hbm, 137, rfl⟩
abbrev main_while0b_v59 : Ref sig .tc := ⟨.hbm, 138, rfl⟩
abbrev main_while0b_v60 : Ref sig .tc := ⟨.hbm, 139, rfl⟩
abbrev main_while0b_v61 : Ref sig .tc := ⟨.hbm, 140, rfl⟩
abbrev main_while0b_v62 : Ref sig .tc := ⟨.hbm, 141, rfl⟩
abbrev main_while0b_v63 : Ref sig .tc := ⟨.hbm, 142, rfl⟩
abbrev main_while0b_v64 : Ref sig .tc := ⟨.hbm, 143, rfl⟩
abbrev main_while0b_v65 : Ref sig .tc := ⟨.hbm, 144, rfl⟩
abbrev main_while0b_call0_cst : Ref sig .tc := ⟨.hbm, 145, rfl⟩
abbrev main_while0b_call0_v0 : Ref sig .tc := ⟨.hbm, 146, rfl⟩
abbrev main_while0b_v66 : Ref sig .tc := ⟨.hbm, 147, rfl⟩
abbrev main_while0b_v67 : Ref sig .tc := ⟨.hbm, 148, rfl⟩
abbrev main_while0b_v68 : Ref sig .tc := ⟨.hbm, 149, rfl⟩
abbrev main_while0b_v69 : Ref sig .tc := ⟨.hbm, 150, rfl⟩
abbrev main_while0b_v70 : Ref sig .tc := ⟨.hbm, 151, rfl⟩
abbrev main_while0b_call1_cst : Ref sig .tc := ⟨.hbm, 152, rfl⟩
abbrev main_while0b_call1_v0 : Ref sig .tc := ⟨.hbm, 153, rfl⟩
abbrev main_while0b_v71 : Ref sig .tc := ⟨.hbm, 154, rfl⟩
abbrev main_while0b_v72 : Ref sig .tc := ⟨.hbm, 155, rfl⟩
abbrev main_while0b_v73 : Ref sig .tc := ⟨.hbm, 156, rfl⟩
abbrev main_while0b_v74 : Ref sig .tc := ⟨.hbm, 157, rfl⟩
abbrev main_while0b_v75 : Ref sig .tc := ⟨.hbm, 158, rfl⟩
abbrev main_while0b_v76 : Ref sig .tc := ⟨.hbm, 159, rfl⟩
abbrev main_while0b_v77 : Ref sig .tc := ⟨.hbm, 160, rfl⟩
abbrev main_while0b_v78 : Ref sig .tc := ⟨.hbm, 161, rfl⟩
abbrev main_while0b_v79 : Ref sig .tc := ⟨.hbm, 162, rfl⟩
abbrev main_while0b_v80 : Ref sig .tc := ⟨.hbm, 163, rfl⟩
abbrev main_while0b_v81 : Ref sig .tc := ⟨.hbm, 164, rfl⟩
abbrev main_while0b_v82 : Ref sig .tc := ⟨.hbm, 165, rfl⟩
abbrev main_while0b_v83 : Ref sig .tc := ⟨.hbm, 166, rfl⟩
abbrev main_while0b_v84 : Ref sig .tc := ⟨.hbm, 167, rfl⟩
abbrev main_while0b_v85 : Ref sig .tc := ⟨.hbm, 168, rfl⟩
abbrev main_while0b_v86 : Ref sig .tc := ⟨.hbm, 169, rfl⟩
abbrev main_while0b_v87 : Ref sig .tc := ⟨.hbm, 170, rfl⟩
abbrev main_while0b_v88 : Ref sig .tc := ⟨.hbm, 171, rfl⟩
abbrev main_while0b_v89 : Ref sig .tc := ⟨.hbm, 172, rfl⟩
abbrev main_while0b_cst : Ref sig .tc := ⟨.hbm, 173, rfl⟩
abbrev main_while0b_v90 : Ref sig .tc := ⟨.hbm, 174, rfl⟩
abbrev main_while0b_v91 : Ref sig .tc := ⟨.hbm, 175, rfl⟩
abbrev main_while0b_cst_61 : Ref sig .tc := ⟨.hbm, 176, rfl⟩
abbrev main_while0b_v92 : Ref sig .tc := ⟨.hbm, 177, rfl⟩
abbrev main_while0b_v93 : Ref sig .tc := ⟨.hbm, 178, rfl⟩
abbrev main_while0b_v94 : Ref sig .tc := ⟨.hbm, 179, rfl⟩
abbrev main_while0b_v95 : Ref sig .tc := ⟨.hbm, 180, rfl⟩
abbrev main_while0b_cst_62 : Ref sig .tc := ⟨.hbm, 181, rfl⟩
abbrev main_while0b_v96 : Ref sig .tc := ⟨.hbm, 182, rfl⟩
abbrev main_while0b_v97 : Ref sig .tc := ⟨.hbm, 183, rfl⟩
abbrev main_while0b_cst_63 : Ref sig .tc := ⟨.hbm, 184, rfl⟩
abbrev main_while0b_v98 : Ref sig .tc := ⟨.hbm, 185, rfl⟩
abbrev main_while0b_v99 : Ref sig .tc := ⟨.hbm, 186, rfl⟩
abbrev main_while0b_v100 : Ref sig .tc := ⟨.hbm, 187, rfl⟩
abbrev main_while0b_v101 : Ref sig .tc := ⟨.hbm, 188, rfl⟩
abbrev main_while0b_v102 : Ref sig .tc := ⟨.hbm, 189, rfl⟩
abbrev main_while0b_cst_64 : Ref sig .tc := ⟨.hbm, 190, rfl⟩
abbrev main_while0b_v103 : Ref sig .tc := ⟨.hbm, 191, rfl⟩
abbrev main_while0b_v104 : Ref sig .tc := ⟨.hbm, 192, rfl⟩
abbrev main_while0b_cst_65 : Ref sig .tc := ⟨.hbm, 193, rfl⟩
abbrev main_while0b_v105 : Ref sig .tc := ⟨.hbm, 194, rfl⟩
abbrev main_while0b_v106 : Ref sig .tc := ⟨.hbm, 195, rfl⟩
abbrev main_while0b_v107 : Ref sig .tc := ⟨.hbm, 196, rfl⟩
abbrev main_while0b_v108 : Ref sig .tc := ⟨.hbm, 197, rfl⟩
abbrev main_while0b_v109 : Ref sig .tc := ⟨.hbm, 198, rfl⟩
abbrev main_while0b_v110 : Ref sig .tc := ⟨.hbm, 199, rfl⟩
abbrev main_while0b_v111 : Ref sig .tc := ⟨.hbm, 200, rfl⟩
abbrev main_while0b_v112 : Ref sig .tc := ⟨.hbm, 201, rfl⟩
abbrev main_while0b_v113 : Ref sig .tc := ⟨.hbm, 202, rfl⟩
abbrev main_while0b_v114 : Ref sig .tc := ⟨.hbm, 203, rfl⟩
abbrev main_while0b_v115 : Ref sig .tc := ⟨.hbm, 204, rfl⟩
abbrev main_while0b_v116 : Ref sig .tc := ⟨.hbm, 205, rfl⟩
abbrev main_while0b_c_66 : Ref sig .tc := ⟨.hbm, 206, rfl⟩
abbrev main_while0b_v117 : Ref sig .tc := ⟨.hbm, 207, rfl⟩
abbrev main_while0b_v118 : Ref sig .tc := ⟨.hbm, 208, rfl⟩
abbrev main_while0b_v119 : Ref sig .tc := ⟨.hbm, 209, rfl⟩
abbrev main_while0b_v120 : Ref sig .tc := ⟨.hbm, 210, rfl⟩
abbrev main_while0b_c_67 : Ref sig .tc := ⟨.hbm, 211, rfl⟩
abbrev main_while0b_v121 : Ref sig .tc := ⟨.hbm, 212, rfl⟩
abbrev main_while0b_v122 : Ref sig .tc := ⟨.hbm, 213, rfl⟩
abbrev main_while0b_c_68 : Ref sig .tc := ⟨.hbm, 214, rfl⟩
abbrev main_while0b_v123 : Ref sig .tc := ⟨.hbm, 215, rfl⟩
abbrev main_while0b_v124 : Ref sig .tc := ⟨.hbm, 216, rfl⟩
abbrev main_while0b_v125 : Ref sig .tc := ⟨.hbm, 217, rfl⟩
abbrev main_while0b_v126 : Ref sig .tc := ⟨.hbm, 218, rfl⟩
abbrev main_while0b_v127 : Ref sig .tc := ⟨.hbm, 219, rfl⟩
abbrev main_while0b_c_69 : Ref sig .tc := ⟨.hbm, 220, rfl⟩
abbrev main_while0b_v128 : Ref sig .tc := ⟨.hbm, 221, rfl⟩
abbrev main_while0b_v129 : Ref sig .tc := ⟨.hbm, 222, rfl⟩
abbrev main_while0b_c_70 : Ref sig .tc := ⟨.hbm, 223, rfl⟩
abbrev main_while0b_v130 : Ref sig .tc := ⟨.hbm, 224, rfl⟩
abbrev main_while0b_v131 : Ref sig .tc := ⟨.hbm, 225, rfl⟩
abbrev main_while0b_v132 : Ref sig .tc := ⟨.hbm, 226, rfl⟩
abbrev main_while0b_v133 : Ref sig .tc := ⟨.hbm, 227, rfl⟩
abbrev main_while0b_v134 : Ref sig .tc := ⟨.hbm, 228, rfl⟩
abbrev main_while0b_c_71 : Ref sig .tc := ⟨.hbm, 229, rfl⟩
abbrev main_while0b_v135 : Ref sig .tc := ⟨.hbm, 230, rfl⟩
abbrev main_while0b_v136 : Ref sig .tc := ⟨.hbm, 231, rfl⟩
abbrev main_while0b_c_72 : Ref sig .tc := ⟨.hbm, 232, rfl⟩
abbrev main_while0b_v137 : Ref sig .tc := ⟨.hbm, 233, rfl⟩
abbrev main_while0b_v138 : Ref sig .tc := ⟨.hbm, 234, rfl⟩
abbrev main_while0b_v139 : Ref sig .tc := ⟨.hbm, 235, rfl⟩
abbrev main_while0b_v140 : Ref sig .tc := ⟨.hbm, 236, rfl⟩
abbrev main_while0b_v141 : Ref sig .tc := ⟨.hbm, 237, rfl⟩
abbrev main_while0b_c_73 : Ref sig .tc := ⟨.hbm, 238, rfl⟩
abbrev main_while0b_v142 : Ref sig .tc := ⟨.hbm, 239, rfl⟩
abbrev main_v1 : Ref sig .tc := ⟨.hbm, 240, rfl⟩

abbrev nD : Nat := 1
abbrev τ : Topo := Topo.v7x

variable {F : FTy → Type} [FloatOps F]

abbrev main_while0_count : Scf.Loop 32 := ⟨0#32, 20#32, 1#32⟩
-- ==== Proof.HostArrays.lean ====
/- The arrays that the kernel's host code makes of its arguments before the call. -/
module

public import proofs.«01_k».proof.Proof.Gen.KernelIdeal.Value

@[expose] public section

set_option maxRecDepth 16384

noncomputable section

namespace Cert.HostArrays

open Idealize.ShloMosaic Idealize.ShloMosaic.TcCoe Idealize.SL.Sem
open Cert.KernelIdeal Cert.KernelIdeal.Gen

variable {F : FTy → Type} [FloatOps F]

/-- The positions that sort each row of the node ids (`argsort`). -/
def inverse (ids : IVec S20x256 32) : IVec S20x256 32 :=
  (Host.sort2 S20x256 1 comparator_i32_i32_d1 ids (iotaInDim S20x256 32 1)).2

/-- Row `t` of the positions, for the frames but the last. -/
def invHead (ids : IVec S20x256 32) : IVec S19x256 32 :=
  extractStridedSlice S19x256 ![0, 0] (inverse ids) slices_S20x256_S19x256_0_0

/-- Row `t + 1` of the node ids, a negative id counted from the end. -/
def idsNext (ids : IVec S20x256 32) : IVec S19x256x1 32 :=
  shapeCast S19x256x1
    (select (cmpi .slt (extractStridedSlice S19x256 ![1, 0] ids slices_S20x256_S19x256_1_0) (broadcastInDim S19x256 ![] bcast_S_S19x256 (constantI S_ 32 0#32)))
      (addi (extractStridedSlice S19x256 ![1, 0] ids slices_S20x256_S19x256_1_0) (broadcastInDim S19x256 ![] bcast_S_S19x256 (constantI S_ 32 256#32)))
      (extractStridedSlice S19x256 ![1, 0] ids slices_S20x256_S19x256_1_0)) shapeCasts_S19x256_S19x256x1

/-- Whether each of those ids is a position of a row. -/
def inRange (ids : IVec S20x256 32) : IVec S19x256 1 :=
  Host.reduce IntOp.andi
    (andi (cmpi .sge (idsNext ids) (broadcastInDim S19x256x1 ![] bcast_S_S19x256x1 (constantI S_ 32 0#32)))
      (cmpi .sle (idsNext ids) (broadcastInDim S19x256x1 ![0, 1, 2] bcast_S1x1x1_S19x256x1_0_1_2
        (broadcastInDim S1x1x1 ![2] bcast_S1_S1x1x1_2 (constantI S1 32 255#32)))))
    (constantI S_ 1 1#1) reducesTo_S19x256x1_S19x256_d2 h_S_

/-- For each frame but the first, where the frame before keeps the row of each node of this frame. -/
def prevTail (ids : IVec S20x256 32) : IVec S19x256 32 :=
  select (inRange ids) (Host.gather gather_S19x256_S19x256x1_S19x256_n_1_0_0_1_2_11 (invHead ids) (idsNext ids))
    (broadcastInDim S19x256 ![] bcast_S_S19x256 (constantI S_ 32 2147483648#32))

/-- For each frame, where the rows that it starts from keep the row of each of its nodes: at the first frame they are
    in node order. -/
def prevRows (ids : IVec S20x256 32) : IVec S20x256 32 :=
  concatenate S20x256 0 [⟨S1x256, extractStridedSlice S1x256 ![0, 0] ids slices_S20x256_S1x256_0_0⟩, ⟨S19x256, prevTail ids⟩]
    concatenates_S1x256_S19x256_S20x256_d0

variable (m : (ℓ : Loc nD τ sig) → Buf (Elt F) ℓ) (c : Dev nD)

theorem V_ids_row : V m c main_v3 = shapeCast S20x1x256 (m ((c : Thread nD τ).loc main_arg5)) shapeCasts_S20x256_S20x1x256 := by
  unfold V
  simp only [hostOps0, hostOps0_1, hostOps0_2, hostOps0_3, hostOps0_4, List.flatten_cons, List.flatten_nil, List.append_nil,
    List.cons_append, List.nil_append]
  after_results
  rfl

theorem V_prev : V m c main_v11 = shapeCast S20x256x1 (prevRows (m ((c : Thread nD τ).loc main_arg5))) shapeCasts_S20x256_S20x256x1 := by
  unfold V
  simp only [hostOps0, hostOps0_1, hostOps0_2, hostOps0_3, hostOps0_4, List.flatten_cons, List.flatten_nil, List.append_nil,
    List.cons_append, List.nil_append]
  after_results
  unfold prevRows prevTail inRange idsNext invHead inverse
  rfl

theorem V_grids : V m c main_v2 = shapeCast S20x4096x256 (transpose S20x16x256x256 [0, 3, 1, 2]
    (truncf .bf16 (m ((c : Thread nD τ).loc main_arg4)) bitsLt_bf16_f32) transposes_S20x256x256x16_S20x16x256x256_0_3_1_2)
      shapeCasts_S20x16x256x256_S20x4096x256 := by
  unfold V
  simp only [hostOps0, hostOps0_1, hostOps0_2, hostOps0_3, hostOps0_4, List.flatten_cons, List.flatten_nil, List.append_nil,
    List.cons_append, List.nil_append]
  after_results
  rfl

theorem V_ids_col : V m c main_v4 = shapeCast S20x256x1 (m ((c : Thread nD τ).loc main_arg5)) shapeCasts_S20x256_S20x256x1 := by
  unfold V
  simp only [hostOps0, hostOps0_1, hostOps0_2, hostOps0_3, hostOps0_4, List.flatten_cons, List.flatten_nil, List.append_nil,
    List.cons_append, List.nil_append]
  after_results
  rfl

theorem V_b_in : V m c main_v12 = shapeCast S1x64 (m ((c : Thread nD τ).loc main_arg7)) shapeCasts_S64_S1x64 := by
  unfold V
  simp only [hostOps0, hostOps0_1, hostOps0_2, hostOps0_3, hostOps0_4, List.flatten_cons, List.flatten_nil, List.append_nil,
    List.cons_append, List.nil_append]
  after_results
  rfl

theorem V_b_t : V m c main_v13 = shapeCast S1x64 (m ((c : Thread nD τ).loc main_arg9)) shapeCasts_S64_S1x64 := by
  unfold V
  simp only [hostOps0, hostOps0_1, hostOps0_2, hostOps0_3, hostOps0_4, List.flatten_cons, List.flatten_nil, List.append_nil,
    List.cons_append, List.nil_append]
  after_results
  rfl

theorem V_b_ih : V m c main_v15 = shapeCast S1x512 (m ((c : Thread nD τ).loc main_arg11)) shapeCasts_S512_S1x512 := by
  unfold V
  simp only [hostOps0, hostOps0_1, hostOps0_2, hostOps0_3, hostOps0_4, List.flatten_cons, List.flatten_nil, List.append_nil,
    List.cons_append, List.nil_append]
  after_results
  rfl

theorem V_b_hh : V m c main_v17 = shapeCast S1x512 (m ((c : Thread nD τ).loc main_arg13)) shapeCasts_S512_S1x512 := by
  unfold V
  simp only [hostOps0, hostOps0_1, hostOps0_2, hostOps0_3, hostOps0_4, List.flatten_cons, List.flatten_nil, List.append_nil,
    List.cons_append, List.nil_append]
  after_results
  rfl

theorem V_b_out : V m c main_v19 = shapeCast S1x5 (m ((c : Thread nD τ).loc main_arg15)) shapeCasts_S5_S1x5 := by
  unfold V
  simp only [hostOps0, hostOps0_1, hostOps0_2, hostOps0_3, hostOps0_4, List.flatten_cons, List.flatten_nil, List.append_nil,
    List.cons_append, List.nil_append]
  after_results
  rfl

theorem V_w_ih : V m c main_v14 = transpose S128x512 [1, 0] (m ((c : Thread nD τ).loc main_arg10)) transposes_S512x128_S128x512_1_0 := by
  unfold V
  simp only [hostOps0, hostOps0_1, hostOps0_2, hostOps0_3, hostOps0_4, List.flatten_cons, List.flatten_nil, List.append_nil,
    List.cons_append, List.nil_append]
  after_results

theorem V_w_hh : V m c main_v16 = transpose S128x512 [1, 0] (m ((c : Thread nD τ).loc main_arg12)) transposes_S512x128_S128x512_1_0 := by
  unfold V
  simp only [hostOps0, hostOps0_1, hostOps0_2, hostOps0_3, hostOps0_4, List.flatten_cons, List.flatten_nil, List.append_nil,
    List.cons_append, List.nil_append]
  after_results

theorem V_w_out : V m c main_v18 = transpose S128x5 [1, 0] (m ((c : Thread nD τ).loc main_arg14)) transposes_S5x128_S128x5_1_0 := by
  unfold V
  simp only [hostOps0, hostOps0_1, hostOps0_2, hostOps0_3, hostOps0_4, List.flatten_cons, List.flatten_nil, List.append_nil,
    List.cons_append, List.nil_append]
  after_results

end Cert.HostArrays
-- ==== Proof.KernelOut.lean ====
/- What one grid point of the kernel leaves in its three output blocks, as a function of the blocks that it reads.

   A frame of the kernel reads fifteen blocks (`Blk`) and the hidden and cell rows in the order of the frame before.
   `newH` and `newC` are the frame's new hidden and cell rows, `outRows` its five outputs, back in node order, and
   `lastH`, `lastC` the new rows back in node order, which the last frame stores. -/
module

public import proofs.«01_k».proof.Proof.Gen.KernelIdeal.Value

@[expose] public section

set_option maxRecDepth 16384

noncomputable section

namespace Cert.KernelOut

open Idealize.ShloMosaic Idealize.ShloMosaic.TcCoe Idealize.SL.Sem
open Idealize.ShloMosaic.Pipeline (Dat)
open Cert.KernelIdeal Cert.KernelIdeal.Gen

variable {F : FTy → Type} [FloatOps F]

/-- The blocks that a frame reads, the carried rows apart. -/
structure Blk (F : FTy → Type) [FloatOps F] where
  grids : Vec F S1x4096x256 .bf16
  pedxy : Vec F S1x256x2 .f32
  idRow : Vec F S1x1x256 .i32
  idCol : Vec F S1x256x1 .i32
  prev : Vec F S1x256x1 .i32
  wIn : Vec F S2x64 .f32
  bIn : Vec F S1x64 .f32
  wT : Vec F S2048x64 .f32
  bT : Vec F S1x64 .f32
  wIh : Vec F S128x512 .f32
  bIh : Vec F S1x512 .f32
  wHh : Vec F S128x512 .f32
  bHh : Vec F S1x512 .f32
  wOut : Vec F S128x5 .f32
  bOut : Vec F S1x5 .f32

/-- The input's share of the gates. -/
def inGates (b : Blk F) (h : Vec F S256x128 .f32) : FVec F S256x512 .f32 :=
  k0_pay7 (k0_pay3 b.prev h) (k0_pay5 b.idCol b.pedxy) (k0_pay6 b.grids) b.wIn b.bIn b.wT b.bT b.wIh

/-- The new cell rows, in the frame's order. -/
def newC (b : Blk F) (h c : Vec F S256x128 .f32) : FVec F S256x128 .f32 :=
  k0_pay10 (k0_pay3 b.prev h) (k0_pay4 b.prev c) (inGates b h) (k0_pay8 b.bIh) b.wHh b.bHh

/-- The new hidden rows, in the frame's order. -/
def newH (b : Blk F) (h c : Vec F S256x128 .f32) : FVec F S256x128 .f32 :=
  k0_pay11 (k0_pay3 b.prev h) (k0_pay4 b.prev c) (inGates b h) (k0_pay8 b.bIh) b.wHh b.bHh

/-- The frame's outputs, in node order. -/
def outRows (b : Blk F) (h c : Vec F S256x128 .f32) : FVec F S1x256x5 .f32 :=
  k0_pay12 (k0_pay2 b.idRow) (k0_pay3 b.prev h) (k0_pay4 b.prev c) (inGates b h) (k0_pay8 b.bIh) b.wHh b.bHh b.wOut b.bOut

/-- The new hidden rows, in node order. -/
def lastH (b : Blk F) (h c : Vec F S256x128 .f32) : FVec F S256x128 .f32 :=
  k0_pay13 (k0_pay2 b.idRow) (k0_pay3 b.prev h) (k0_pay4 b.prev c) (inGates b h) (k0_pay8 b.bIh) b.wHh b.bHh

/-- The new cell rows, in node order. -/
def lastC (b : Blk F) (h c : Vec F S256x128 .f32) : FVec F S256x128 .f32 :=
  k0_pay14 (k0_pay2 b.idRow) (k0_pay3 b.prev h) (k0_pay4 b.prev c) (inGates b h) (k0_pay8 b.bIh) b.wHh b.bHh

variable (m : (ℓ : Loc nD τ sig) → Buf (Elt F) ℓ) (c : Dev nD)

/-- The blocks that grid point `t` reads. -/
def blk (t : Fin cfg0.N) : Blk F where
  grids := iblk m c 0 t
  pedxy := iblk m c 1 t
  idRow := iblk m c 2 t
  idCol := iblk m c 3 t
  prev := iblk m c 4 t
  wIn := iblk m c 7 t
  bIn := iblk m c 8 t
  wT := iblk m c 9 t
  bT := iblk m c 10 t
  wIh := iblk m c 11 t
  bIh := iblk m c 12 t
  wHh := iblk m c 13 t
  bHh := iblk m c 14 t
  wOut := iblk m c 15 t
  bOut := iblk m c 16 t

theorem zero2 : (![0, 0] : Fin 2 → Nat) = fun _ => 0 := funext fun a => by fin_cases a <;> rfl
theorem zero3 : (![0, 0, 0] : Fin 3 → Nat) = fun _ => 0 := funext fun a => by fin_cases a <;> rfl

set_option maxHeartbeats 2000000 in
/-- The first frame reads the initial hidden and cell rows. -/
theorem outs_first (t : Fin cfg0.N) (h0 : t.val % 20 = 0) (h1 : t.val < 19) (h2 : ¬ t.val % 20 = 19) :
    outsAt0 m c t.val t.isLt
      = (outRows (blk m c t) (iblk m c 5 t) (iblk m c 6 t), newH (blk m c t) (iblk m c 5 t) (iblk m c 6 t),
          newC (blk m c t) (iblk m c 5 t) (iblk m c 6 t)) := by
  rw [outsAt0_A m c t h0 h1 h2]
  refine Prod.ext ?_ (Prod.ext ?_ ?_) <;> dsimp only
  · unfold out0_A_17
    refine (View.read_writes_eq_canon _ _ _ (fun y => by apply cover0_A_17)).trans ?_
    unfold kernelRun0_A; dsimp only; sl_unfold_words
    rw [View.canon_cons_unit_zero (S := S1x256x5) zero3]
    simp only [View.readCov_unit_zero (S := S256x128) _ zero2, View.readAt_eq_ld, Memref.IsWhole.read_unread, View.ld_unit_zero (S := S1x4096x256) zero3, View.ld_unit_zero (S := S1x256x2) zero3, View.ld_unit_zero (S := S1x1x256) zero3, View.ld_unit_zero (S := S1x256x1) zero3, View.ld_unit_zero (S := S256x128) zero2, View.ld_unit_zero (S := S2x64) zero2, View.ld_unit_zero (S := S1x64) zero2, View.ld_unit_zero (S := S2048x64) zero2, View.ld_unit_zero (S := S128x512) zero2, View.ld_unit_zero (S := S1x512) zero2, View.ld_unit_zero (S := S128x5) zero2, View.ld_unit_zero (S := S1x5) zero2]
    rfl
  · unfold out0_A_18
    refine (View.read_writes_eq_canon _ _ _ (fun y => by apply cover0_A_18)).trans ?_
    unfold kernelRun0_A; dsimp only; sl_unfold_words
    rw [View.canon_cons_unit_zero (S := S256x128) zero2]
    simp only [View.readCov_unit_zero (S := S256x128) _ zero2, View.readAt_eq_ld, Memref.IsWhole.read_unread, View.ld_unit_zero (S := S1x4096x256) zero3, View.ld_unit_zero (S := S1x256x2) zero3, View.ld_unit_zero (S := S1x1x256) zero3, View.ld_unit_zero (S := S1x256x1) zero3, View.ld_unit_zero (S := S256x128) zero2, View.ld_unit_zero (S := S2x64) zero2, View.ld_unit_zero (S := S1x64) zero2, View.ld_unit_zero (S := S2048x64) zero2, View.ld_unit_zero (S := S128x512) zero2, View.ld_unit_zero (S := S1x512) zero2, View.ld_unit_zero (S := S128x5) zero2, View.ld_unit_zero (S := S1x5) zero2]
    rfl
  · unfold out0_A_19
    refine (View.read_writes_eq_canon _ _ _ (fun y => by apply cover0_A_19)).trans ?_
    unfold kernelRun0_A; dsimp only; sl_unfold_words
    rw [View.canon_cons_unit_zero (S := S256x128) zero2]
    simp only [View.readCov_unit_zero (S := S256x128) _ zero2, View.readAt_eq_ld, Memref.IsWhole.read_unread, View.ld_unit_zero (S := S1x4096x256) zero3, View.ld_unit_zero (S := S1x256x2) zero3, View.ld_unit_zero (S := S1x1x256) zero3, View.ld_unit_zero (S := S1x256x1) zero3, View.ld_unit_zero (S := S256x128) zero2, View.ld_unit_zero (S := S2x64) zero2, View.ld_unit_zero (S := S1x64) zero2, View.ld_unit_zero (S := S2048x64) zero2, View.ld_unit_zero (S := S128x512) zero2, View.ld_unit_zero (S := S1x512) zero2, View.ld_unit_zero (S := S128x5) zero2, View.ld_unit_zero (S := S1x5) zero2]
    rfl

set_option maxHeartbeats 2000000 in
/-- A later frame reads the rows that the frame before left. -/
theorem outs_next (t : Fin cfg0.N) (h0 : ¬ t.val % 20 = 0) (h1 : t.val < 19) (h2 : ¬ t.val % 20 = 19) :
    outsAt0 m c t.val t.isLt
      = (outRows (blk m c t) (outsAt0 m c (t.val - 1) (Nat.lt_of_le_of_lt (Nat.sub_le _ _) t.isLt)).2.1 (outsAt0 m c (t.val - 1) (Nat.lt_of_le_of_lt (Nat.sub_le _ _) t.isLt)).2.2, newH (blk m c t) (outsAt0 m c (t.val - 1) (Nat.lt_of_le_of_lt (Nat.sub_le _ _) t.isLt)).2.1 (outsAt0 m c (t.val - 1) (Nat.lt_of_le_of_lt (Nat.sub_le _ _) t.isLt)).2.2,
          newC (blk m c t) (outsAt0 m c (t.val - 1) (Nat.lt_of_le_of_lt (Nat.sub_le _ _) t.isLt)).2.1 (outsAt0 m c (t.val - 1) (Nat.lt_of_le_of_lt (Nat.sub_le _ _) t.isLt)).2.2) := by
  rw [outsAt0_B m c t h0 h1 h2]
  refine Prod.ext ?_ (Prod.ext ?_ ?_) <;> dsimp only
  · unfold out0_B_17
    refine (View.read_writes_eq_canon _ _ _ (fun y => by apply cover0_B_17)).trans ?_
    unfold kernelRun0_B; dsimp only; sl_unfold_words
    rw [View.canon_cons_unit_zero (S := S1x256x5) zero3]
    simp only [View.readCov_unit_zero (S := S256x128) _ zero2, View.readAt_eq_ld, Memref.IsWhole.read_unread, View.ld_unit_zero (S := S1x4096x256) zero3, View.ld_unit_zero (S := S1x256x2) zero3, View.ld_unit_zero (S := S1x1x256) zero3, View.ld_unit_zero (S := S1x256x1) zero3, View.ld_unit_zero (S := S256x128) zero2, View.ld_unit_zero (S := S2x64) zero2, View.ld_unit_zero (S := S1x64) zero2, View.ld_unit_zero (S := S2048x64) zero2, View.ld_unit_zero (S := S128x512) zero2, View.ld_unit_zero (S := S1x512) zero2, View.ld_unit_zero (S := S128x5) zero2, View.ld_unit_zero (S := S1x5) zero2]
    rfl
  · unfold out0_B_18
    refine (View.read_writes_eq_canon _ _ _ (fun y => by apply cover0_B_18)).trans ?_
    unfold kernelRun0_B; dsimp only; sl_unfold_words
    rw [View.canon_cons_unit_zero (S := S256x128) zero2]
    simp only [View.readCov_unit_zero (S := S256x128) _ zero2, View.readAt_eq_ld, Memref.IsWhole.read_unread, View.ld_unit_zero (S := S1x4096x256) zero3, View.ld_unit_zero (S := S1x256x2) zero3, View.ld_unit_zero (S := S1x1x256) zero3, View.ld_unit_zero (S := S1x256x1) zero3, View.ld_unit_zero (S := S256x128) zero2, View.ld_unit_zero (S := S2x64) zero2, View.ld_unit_zero (S := S1x64) zero2, View.ld_unit_zero (S := S2048x64) zero2, View.ld_unit_zero (S := S128x512) zero2, View.ld_unit_zero (S := S1x512) zero2, View.ld_unit_zero (S := S128x5) zero2, View.ld_unit_zero (S := S1x5) zero2]
    rfl
  · unfold out0_B_19
    refine (View.read_writes_eq_canon _ _ _ (fun y => by apply cover0_B_19)).trans ?_
    unfold kernelRun0_B; dsimp only; sl_unfold_words
    rw [View.canon_cons_unit_zero (S := S256x128) zero2]
    simp only [View.readCov_unit_zero (S := S256x128) _ zero2, View.readAt_eq_ld, Memref.IsWhole.read_unread, View.ld_unit_zero (S := S1x4096x256) zero3, View.ld_unit_zero (S := S1x256x2) zero3, View.ld_unit_zero (S := S1x1x256) zero3, View.ld_unit_zero (S := S1x256x1) zero3, View.ld_unit_zero (S := S256x128) zero2, View.ld_unit_zero (S := S2x64) zero2, View.ld_unit_zero (S := S1x64) zero2, View.ld_unit_zero (S := S2048x64) zero2, View.ld_unit_zero (S := S128x512) zero2, View.ld_unit_zero (S := S1x512) zero2, View.ld_unit_zero (S := S128x5) zero2, View.ld_unit_zero (S := S1x5) zero2]
    rfl

set_option maxHeartbeats 2000000 in
/-- The last frame also brings the rows back to node order. -/
theorem outs_last (t : Fin cfg0.N) (h0 : ¬ t.val % 20 = 0) (h1 : ¬ t.val < 19) (h2 : t.val % 20 = 19) :
    outsAt0 m c t.val t.isLt
      = (outRows (blk m c t) (outsAt0 m c (t.val - 1) (Nat.lt_of_le_of_lt (Nat.sub_le _ _) t.isLt)).2.1 (outsAt0 m c (t.val - 1) (Nat.lt_of_le_of_lt (Nat.sub_le _ _) t.isLt)).2.2, lastH (blk m c t) (outsAt0 m c (t.val - 1) (Nat.lt_of_le_of_lt (Nat.sub_le _ _) t.isLt)).2.1 (outsAt0 m c (t.val - 1) (Nat.lt_of_le_of_lt (Nat.sub_le _ _) t.isLt)).2.2,
          lastC (blk m c t) (outsAt0 m c (t.val - 1) (Nat.lt_of_le_of_lt (Nat.sub_le _ _) t.isLt)).2.1 (outsAt0 m c (t.val - 1) (Nat.lt_of_le_of_lt (Nat.sub_le _ _) t.isLt)).2.2) := by
  rw [outsAt0_C m c t h0 h1 h2]
  refine Prod.ext ?_ (Prod.ext ?_ ?_) <;> dsimp only
  · unfold out0_C_17
    refine (View.read_writes_eq_canon _ _ _ (fun y => by apply cover0_C_17)).trans ?_
    unfold kernelRun0_C; dsimp only; sl_unfold_words
    rw [View.canon_cons_unit_zero (S := S1x256x5) zero3]
    simp only [View.readCov_unit_zero (S := S256x128) _ zero2, View.readAt_eq_ld, Memref.IsWhole.read_unread, View.ld_unit_zero (S := S1x4096x256) zero3, View.ld_unit_zero (S := S1x256x2) zero3, View.ld_unit_zero (S := S1x1x256) zero3, View.ld_unit_zero (S := S1x256x1) zero3, View.ld_unit_zero (S := S256x128) zero2, View.ld_unit_zero (S := S2x64) zero2, View.ld_unit_zero (S := S1x64) zero2, View.ld_unit_zero (S := S2048x64) zero2, View.ld_unit_zero (S := S128x512) zero2, View.ld_unit_zero (S := S1x512) zero2, View.ld_unit_zero (S := S128x5) zero2, View.ld_unit_zero (S := S1x5) zero2]
    rfl
  · unfold out0_C_18
    refine (View.read_writes_eq_canon _ _ _ (fun y => by apply cover0_C_18)).trans ?_
    unfold kernelRun0_C; dsimp only; sl_unfold_words
    rw [View.canon_cons_unit_zero (S := S256x128) zero2]
    simp only [View.readCov_unit_zero (S := S256x128) _ zero2, View.readAt_eq_ld, Memref.IsWhole.read_unread, View.ld_unit_zero (S := S1x4096x256) zero3, View.ld_unit_zero (S := S1x256x2) zero3, View.ld_unit_zero (S := S1x1x256) zero3, View.ld_unit_zero (S := S1x256x1) zero3, View.ld_unit_zero (S := S256x128) zero2, View.ld_unit_zero (S := S2x64) zero2, View.ld_unit_zero (S := S1x64) zero2, View.ld_unit_zero (S := S2048x64) zero2, View.ld_unit_zero (S := S128x512) zero2, View.ld_unit_zero (S := S1x512) zero2, View.ld_unit_zero (S := S128x5) zero2, View.ld_unit_zero (S := S1x5) zero2]
    rfl
  · unfold out0_C_19
    refine (View.read_writes_eq_canon _ _ _ (fun y => by apply cover0_C_19)).trans ?_
    unfold kernelRun0_C; dsimp only; sl_unfold_words
    rw [View.canon_cons_unit_zero (S := S256x128) zero2]
    simp only [View.readCov_unit_zero (S := S256x128) _ zero2, View.readAt_eq_ld, Memref.IsWhole.read_unread, View.ld_unit_zero (S := S1x4096x256) zero3, View.ld_unit_zero (S := S1x256x2) zero3, View.ld_unit_zero (S := S1x1x256) zero3, View.ld_unit_zero (S := S1x256x1) zero3, View.ld_unit_zero (S := S256x128) zero2, View.ld_unit_zero (S := S2x64) zero2, View.ld_unit_zero (S := S1x64) zero2, View.ld_unit_zero (S := S2048x64) zero2, View.ld_unit_zero (S := S128x512) zero2, View.ld_unit_zero (S := S1x512) zero2, View.ld_unit_zero (S := S128x5) zero2, View.ld_unit_zero (S := S1x5) zero2]
    rfl

end Cert.KernelOut
-- ==== Proof.Blocks.lean ====
/- The blocks that a grid point reads, as parts of the kernel's arguments: frame `t` of the masks, positions, node ids and the table
   of previous positions; and the initial rows and the weights whole. -/
module

public import proofs.«01_k».proof.Proof.HostArrays
public import proofs.«01_k».proof.Proof.KernelOut
public import Idealize.ShloMosaic.Lib.Pointwise

@[expose] public section

set_option maxRecDepth 16384

noncomputable section

namespace Cert.Blocks

open Idealize.ShloMosaic Idealize.ShloMosaic.TcCoe Idealize.SL.Sem
open Cert.KernelIdeal Cert.KernelIdeal.Gen Cert.KernelOut Cert.HostArrays

variable (m : (ℓ : Loc nD τ sig) → Buf (Elt Ideal) ℓ) (c : Dev nD)

/-- The frame of a grid point. -/
def fr (t : Fin cfg0.N) : Fin 20 := ⟨t.val, by have := t.isLt; have e : cfg0.N = 20 := N_0; omega⟩

/-- The windows on one frame are at block `t`. -/
theorem index_frame : ∀ t : Fin grid0.N,
    (win0_0.index t 0 * 1 = t.val ∧ win0_0.index t 1 * 4096 = 0 ∧ win0_0.index t 2 * 256 = 0)
    ∧ (win0_1.index t 0 * 1 = t.val ∧ win0_1.index t 1 * 256 = 0 ∧ win0_1.index t 2 * 2 = 0)
    ∧ (win0_2.index t 0 * 1 = t.val ∧ win0_2.index t 1 * 1 = 0 ∧ win0_2.index t 2 * 256 = 0)
    ∧ (win0_3.index t 0 * 1 = t.val ∧ win0_3.index t 1 * 256 = 0 ∧ win0_3.index t 2 * 1 = 0)
    ∧ (win0_4.index t 0 * 1 = t.val ∧ win0_4.index t 1 * 256 = 0 ∧ win0_4.index t 2 * 1 = 0) := by
  decide +kernel

/-- A block of one frame at an index, of each of the five arrays that have frames. -/
theorem grids_block (t : Fin cfg0.N) (x : Fin 4096) (k : Fin 256) :
    iblk m c 0 t (ix3 (0 : Fin 1) x k : S1x4096x256.Idx) = V m c main_v2 (ix3 (fr t) x k : S20x4096x256.Idx) := by
  obtain ⟨⟨e0, e1, e2⟩, -⟩ := index_frame t
  unfold iblk
  rw [View.read_apply]
  show V m c main_v2 _ = _
  congr 1
  funext a
  apply Fin.ext
  match a with
  | ⟨0, _⟩ => show win0_0.index t 0 * 1 + 1 * 0 = t.val; rw [e0]; rfl
  | ⟨1, _⟩ => show win0_0.index t 1 * 4096 + 1 * x.val = x.val; rw [e1]; omega
  | ⟨2, _⟩ => show win0_0.index t 2 * 256 + 1 * k.val = k.val; rw [e2]; omega

theorem pedxy_block (t : Fin cfg0.N) (x : Fin 256) (k : Fin 2) :
    iblk m c 1 t (ix3 (0 : Fin 1) x k : S1x256x2.Idx) = V m c main_arg0 (ix3 (fr t) x k : S20x256x2.Idx) := by
  obtain ⟨-, ⟨e0, e1, e2⟩, -⟩ := index_frame t
  unfold iblk
  rw [View.read_apply]
  show V m c main_arg0 _ = _
  congr 1
  funext a
  apply Fin.ext
  match a with
  | ⟨0, _⟩ => show win0_1.index t 0 * 1 + 1 * 0 = t.val; rw [e0]; rfl
  | ⟨1, _⟩ => show win0_1.index t 1 * 256 + 1 * x.val = x.val; rw [e1]; omega
  | ⟨2, _⟩ => show win0_1.index t 2 * 2 + 1 * k.val = k.val; rw [e2]; omega

theorem idRow_block (t : Fin cfg0.N) (n : Fin 256) :
    iblk m c 2 t (ix3 (0 : Fin 1) (0 : Fin 1) n : S1x1x256.Idx) = V m c main_v3 (ix3 (fr t) (0 : Fin 1) n : S20x1x256.Idx) := by
  obtain ⟨-, -, ⟨e0, e1, e2⟩, -⟩ := index_frame t
  unfold iblk
  rw [View.read_apply]
  show V m c main_v3 _ = _
  congr 1
  funext a
  apply Fin.ext
  match a with
  | ⟨0, _⟩ => show win0_2.index t 0 * 1 + 1 * 0 = t.val; rw [e0]; rfl
  | ⟨1, _⟩ => show win0_2.index t 1 * 1 + 1 * 0 = 0; rw [e1]
  | ⟨2, _⟩ => show win0_2.index t 2 * 256 + 1 * n.val = n.val; rw [e2]; omega

theorem idCol_block (t : Fin cfg0.N) (n : Fin 256) :
    iblk m c 3 t (ix3 (0 : Fin 1) n (0 : Fin 1) : S1x256x1.Idx) = V m c main_v4 (ix3 (fr t) n (0 : Fin 1) : S20x256x1.Idx) := by
  obtain ⟨-, -, -, ⟨e0, e1, e2⟩, -⟩ := index_frame t
  unfold iblk
  rw [View.read_apply]
  show V m c main_v4 _ = _
  congr 1
  funext a
  apply Fin.ext
  match a with
  | ⟨0, _⟩ => show win0_3.index t 0 * 1 + 1 * 0 = t.val; rw [e0]; rfl
  | ⟨1, _⟩ => show win0_3.index t 1 * 256 + 1 * n.val = n.val; rw [e1]; omega
  | ⟨2, _⟩ => show win0_3.index t 2 * 1 + 1 * 0 = 0; rw [e2]

theorem prev_block (t : Fin cfg0.N) (n : Fin 256) :
    iblk m c 4 t (ix3 (0 : Fin 1) n (0 : Fin 1) : S1x256x1.Idx) = V m c main_v11 (ix3 (fr t) n (0 : Fin 1) : S20x256x1.Idx) := by
  obtain ⟨-, -, -, -, ⟨e0, e1, e2⟩⟩ := index_frame t
  unfold iblk
  rw [View.read_apply]
  show V m c main_v11 _ = _
  congr 1
  funext a
  apply Fin.ext
  match a with
  | ⟨0, _⟩ => show win0_4.index t 0 * 1 + 1 * 0 = t.val; rw [e0]; rfl
  | ⟨1, _⟩ => show win0_4.index t 1 * 256 + 1 * n.val = n.val; rw [e1]; omega
  | ⟨2, _⟩ => show win0_4.index t 2 * 1 + 1 * 0 = 0; rw [e2]

/-- Frame `t`'s masks, cell by cell. -/
theorem grids_eq (t : Fin cfg0.N) (n k : Fin 256) (q : Fin 16) :
    k0_pay6 (iblk m c 0 t) (ix2 (⟨q.val * 256 + n.val, by omega⟩ : Fin 4096) k : S4096x256.Idx)
      = m ((c : Thread nD τ).loc main_arg4) (ix4 (fr t) n k q : S20x256x256x16.Idx) := by
  have e : k0_pay6 (iblk m c 0 t) (ix2 (⟨q.val * 256 + n.val, by omega⟩ : Fin 4096) k : S4096x256.Idx)
      = iblk m c 0 t (ix3 (0 : Fin 1) (⟨q.val * 256 + n.val, by omega⟩ : Fin 4096) k : S1x4096x256.Idx) := by
    unfold k0_pay6
    generalize iblk m c 0 t = x
    pointwise
  rw [e, grids_block, V_grids]
  generalize m ((c : Thread nD τ).loc main_arg4) = x
  pointwise

/-- Frame `t`'s positions. -/
theorem pedxy_eq (t : Fin cfg0.N) (x : Fin 256) (k : Fin 2) :
    iblk m c 1 t (ix3 (0 : Fin 1) x k : S1x256x2.Idx) = m ((c : Thread nD τ).loc main_arg0) (ix3 (fr t) x k : S20x256x2.Idx) := by
  rw [pedxy_block, V_main_arg0]

/-- Frame `t`'s node ids, as a row and as a column. -/
theorem idRow_eq (t : Fin cfg0.N) (n : Fin 256) :
    iblk m c 2 t (ix3 (0 : Fin 1) (0 : Fin 1) n : S1x1x256.Idx) = m ((c : Thread nD τ).loc main_arg5) (ix2 (fr t) n : S20x256.Idx) := by
  rw [idRow_block, V_ids_row]
  generalize m ((c : Thread nD τ).loc main_arg5) = x
  pointwise

theorem idCol_eq (t : Fin cfg0.N) (n : Fin 256) :
    iblk m c 3 t (ix3 (0 : Fin 1) n (0 : Fin 1) : S1x256x1.Idx) = m ((c : Thread nD τ).loc main_arg5) (ix2 (fr t) n : S20x256.Idx) := by
  rw [idCol_block, V_ids_col]
  generalize m ((c : Thread nD τ).loc main_arg5) = x
  pointwise

/-- Frame `t`'s row of the table of previous positions. -/
theorem prev_eq (t : Fin cfg0.N) (n : Fin 256) :
    iblk m c 4 t (ix3 (0 : Fin 1) n (0 : Fin 1) : S1x256x1.Idx)
      = prevRows (m ((c : Thread nD τ).loc main_arg5)) (ix2 (fr t) n : S20x256.Idx) := by
  rw [prev_block, V_prev]
  generalize prevRows (m ((c : Thread nD τ).loc main_arg5)) = x
  pointwise

/-- The windows on whole arrays are at their start. -/
theorem index_whole : ∀ t : Fin grid0.N,
    (∀ a, win0_5.index t a * win0_5.size a = 0) ∧ (∀ a, win0_6.index t a * win0_6.size a = 0)
    ∧ (∀ a, win0_7.index t a * win0_7.size a = 0) ∧ (∀ a, win0_8.index t a * win0_8.size a = 0)
    ∧ (∀ a, win0_9.index t a * win0_9.size a = 0) ∧ (∀ a, win0_10.index t a * win0_10.size a = 0)
    ∧ (∀ a, win0_11.index t a * win0_11.size a = 0) ∧ (∀ a, win0_12.index t a * win0_12.size a = 0)
    ∧ (∀ a, win0_13.index t a * win0_13.size a = 0) ∧ (∀ a, win0_14.index t a * win0_14.size a = 0)
    ∧ (∀ a, win0_15.index t a * win0_15.size a = 0) ∧ (∀ a, win0_16.index t a * win0_16.size a = 0)
    ∧ (∀ a, win0_18.index t a * win0_18.size a = 0) ∧ (∀ a, win0_19.index t a * win0_19.size a = 0) := by
  decide +kernel

/-- The initial rows and the weights, each whole. -/
theorem hidden_eq (t : Fin cfg0.N) : iblk m c 5 t = V m c main_arg1 :=
  Memref.read_access_unit_zero (Elt Ideal) main_arg1 (funext (index_whole t).1) (fun a => by rw [(index_whole t).1 a]; simp) _

theorem cells_eq (t : Fin cfg0.N) : iblk m c 6 t = V m c main_arg2 :=
  Memref.read_access_unit_zero (Elt Ideal) main_arg2 (funext (index_whole t).2.1) (fun a => by rw [(index_whole t).2.1 a]; simp) _

theorem wIn_eq (t : Fin cfg0.N) : iblk m c 7 t = V m c main_arg6 :=
  Memref.read_access_unit_zero (Elt Ideal) main_arg6 (funext (index_whole t).2.2.1) (fun a => by rw [(index_whole t).2.2.1 a]; simp) _

theorem bIn_eq (t : Fin cfg0.N) : iblk m c 8 t = V m c main_v12 :=
  Memref.read_access_unit_zero (Elt Ideal) main_v12 (funext (index_whole t).2.2.2.1) (fun a => by rw [(index_whole t).2.2.2.1 a]; simp) _

theorem wT_eq (t : Fin cfg0.N) : iblk m c 9 t = V m c main_arg8 :=
  Memref.read_access_unit_zero (Elt Ideal) main_arg8 (funext (index_whole t).2.2.2.2.1) (fun a => by rw [(index_whole t).2.2.2.2.1 a]; simp) _

theorem bT_eq (t : Fin cfg0.N) : iblk m c 10 t = V m c main_v13 :=
  Memref.read_access_unit_zero (Elt Ideal) main_v13 (funext (index_whole t).2.2.2.2.2.1) (fun a => by rw [(index_whole t).2.2.2.2.2.1 a]; simp) _

theorem wIh_eq (t : Fin cfg0.N) : iblk m c 11 t = V m c main_v14 :=
  Memref.read_access_unit_zero (Elt Ideal) main_v14 (funext (index_whole t).2.2.2.2.2.2.1) (fun a => by rw [(index_whole t).2.2.2.2.2.2.1 a]; simp) _

theorem bIh_eq (t : Fin cfg0.N) : iblk m c 12 t = V m c main_v15 :=
  Memref.read_access_unit_zero (Elt Ideal) main_v15 (funext (index_whole t).2.2.2.2.2.2.2.1) (fun a => by rw [(index_whole t).2.2.2.2.2.2.2.1 a]; simp) _

theorem wHh_eq (t : Fin cfg0.N) : iblk m c 13 t = V m c main_v16 :=
  Memref.read_access_unit_zero (Elt Ideal) main_v16 (funext (index_whole t).2.2.2.2.2.2.2.2.1) (fun a => by rw [(index_whole t).2.2.2.2.2.2.2.2.1 a]; simp) _

theorem bHh_eq (t : Fin cfg0.N) : iblk m c 14 t = V m c main_v17 :=
  Memref.read_access_unit_zero (Elt Ideal) main_v17 (funext (index_whole t).2.2.2.2.2.2.2.2.2.1) (fun a => by rw [(index_whole t).2.2.2.2.2.2.2.2.2.1 a]; simp) _

theorem wOut_eq (t : Fin cfg0.N) : iblk m c 15 t = V m c main_v18 :=
  Memref.read_access_unit_zero (Elt Ideal) main_v18 (funext (index_whole t).2.2.2.2.2.2.2.2.2.2.1) (fun a => by rw [(index_whole t).2.2.2.2.2.2.2.2.2.2.1 a]; simp) _

theorem bOut_eq (t : Fin cfg0.N) : iblk m c 16 t = V m c main_v19 :=
  Memref.read_access_unit_zero (Elt Ideal) main_v19 (funext (index_whole t).2.2.2.2.2.2.2.2.2.2.2.1) (fun a => by rw [(index_whole t).2.2.2.2.2.2.2.2.2.2.2.1 a]; simp) _

end Cert.Blocks
-- ==== Proof.RefStep.lean ====
/- One trip of the reference's loop over the frames, as a function of the state that the loop carries: the values
   `b0 … b199` that the trip computes from trip number `j` and state `s`, in the order of the program, and `step`,
   the state after the trip. -/
module

public import proofs.«01_k».proof.ReferenceIdeal
public import proofs.«01_k».proof.Proof.Gen.ReferenceIdeal

@[expose] public section

noncomputable section

namespace Cert.RefStep

open Idealize.ShloMosaic Cert.ReferenceIdeal Cert.ReferenceIdeal.Gen

variable {F : FTy → Type} [FloatOps F]

/-- What a trip hands the next. -/
structure State (F : FTy → Type) [FloatOps F] where
  main_v0_15 : (⟨S5120x5, .f32⟩ : BufTy).Contents (Elt F)
  main_v0_16 : (⟨S256x128, .f32⟩ : BufTy).Contents (Elt F)
  main_v0_17 : (⟨S256x128, .f32⟩ : BufTy).Contents (Elt F)
  main_v0_0 : (⟨S20x256, .i32⟩ : BufTy).Contents (Elt F)
  main_v0_1 : (⟨S20x256x2, .f32⟩ : BufTy).Contents (Elt F)
  main_v0_2 : (⟨S20x256x256x16, .f32⟩ : BufTy).Contents (Elt F)
  main_v0_3 : (⟨S2x64, .f32⟩ : BufTy).Contents (Elt F)
  main_v0_4 : (⟨S64, .f32⟩ : BufTy).Contents (Elt F)
  main_v0_5 : (⟨S2048x64, .f32⟩ : BufTy).Contents (Elt F)
  main_v0_6 : (⟨S64, .f32⟩ : BufTy).Contents (Elt F)
  main_v0_7 : (⟨S512x128, .f32⟩ : BufTy).Contents (Elt F)
  main_v0_8 : (⟨S512, .f32⟩ : BufTy).Contents (Elt F)
  main_v0_9 : (⟨S512x128, .f32⟩ : BufTy).Contents (Elt F)
  main_v0_10 : (⟨S512, .f32⟩ : BufTy).Contents (Elt F)
  main_v0_11 : (⟨S5x128, .f32⟩ : BufTy).Contents (Elt F)
  main_v0_12 : (⟨S5, .f32⟩ : BufTy).Contents (Elt F)

/-! What @main computes before the loop without reading an argument. -/

def K_main_c : (⟨S_, .i32⟩ : BufTy).Contents (Elt F) := constantI S_ 32 0#32
def K_main_c_0 : (⟨S_, .i32⟩ : BufTy).Contents (Elt F) := constantI S_ 32 0#32

/-! One trip's values, in the body's order. -/

def b0 (j : ℕ) (s : State F) : (⟨S_, .i32⟩ : BufTy).Contents (Elt F) :=
  constantI S_ 32 1#32
def b1 (j : ℕ) (s : State F) : (⟨S_, .i32⟩ : BufTy).Contents (Elt F) :=
  addi ((constantI S_ 32 (BitVec.ofNat 32 j) : (⟨S_, .i32⟩ : BufTy).Contents (Elt F))) ((b0 j s))
def b2 (j : ℕ) (s : State F) : (⟨S_, .i32⟩ : BufTy).Contents (Elt F) :=
  id ((constantI S_ 32 (BitVec.ofNat 32 j) : (⟨S_, .i32⟩ : BufTy).Contents (Elt F)))
def b3 (j : ℕ) (s : State F) : (⟨S_, .i32⟩ : BufTy).Contents (Elt F) :=
  constantI S_ 32 0#32
def b4 (j : ℕ) (s : State F) : (⟨S_, .i1⟩ : BufTy).Contents (Elt F) :=
  cmpi .slt ((b2 j s)) ((b3 j s))
def b5 (j : ℕ) (s : State F) : (⟨S_, .i32⟩ : BufTy).Contents (Elt F) :=
  constantI S_ 32 20#32
def b6 (j : ℕ) (s : State F) : (⟨S_, .i32⟩ : BufTy).Contents (Elt F) :=
  addi ((b2 j s)) ((b5 j s))
def b7 (j : ℕ) (s : State F) : (⟨S_, .i32⟩ : BufTy).Contents (Elt F) :=
  select ((b4 j s)) ((b6 j s)) ((b2 j s))
def b8 (j : ℕ) (s : State F) : (⟨S_, .i32⟩ : BufTy).Contents (Elt F) :=
  constantI S_ 32 0#32
def b9 (j : ℕ) (s : State F) : (⟨S_, .i32⟩ : BufTy).Contents (Elt F) :=
  constantI S_ 32 0#32
def b10 (j : ℕ) (s : State F) : (⟨S_, .i1⟩ : BufTy).Contents (Elt F) :=
  cmpi .slt ((b8 j s)) ((b9 j s))
def b11 (j : ℕ) (s : State F) : (⟨S_, .i32⟩ : BufTy).Contents (Elt F) :=
  constantI S_ 32 0#32
def b12 (j : ℕ) (s : State F) : (⟨S_, .i32⟩ : BufTy).Contents (Elt F) :=
  constantI S_ 32 256#32
def b13 (j : ℕ) (s : State F) : (⟨S_, .i32⟩ : BufTy).Contents (Elt F) :=
  addi ((b11 j s)) ((b12 j s))
def b14 (j : ℕ) (s : State F) : (⟨S_, .i32⟩ : BufTy).Contents (Elt F) :=
  constantI S_ 32 0#32
def b15 (j : ℕ) (s : State F) : (⟨S_, .i32⟩ : BufTy).Contents (Elt F) :=
  select ((b10 j s)) ((b13 j s)) ((b14 j s))
def b16 (j : ℕ) (s : State F) : (⟨S1x256, .i32⟩ : BufTy).Contents (Elt F) :=
  Host.dynamicSlice S1x256 (s.main_v0_0) (fun k => (((![(b7 j s), (b15 j s)] : Fin 2 → (⟨S_, .i32⟩ : BufTy).Contents (Elt F))) k (Shape.Idx.first h_S_)).toInt) sliceFits_S20x256_S1x256
def b17 (j : ℕ) (s : State F) : (⟨S256, .i32⟩ : BufTy).Contents (Elt F) :=
  shapeCast S256 ((b16 j s)) shapeCasts_S1x256_S256
def b18 (j : ℕ) (s : State F) : (⟨S_, .i32⟩ : BufTy).Contents (Elt F) :=
  id ((constantI S_ 32 (BitVec.ofNat 32 j) : (⟨S_, .i32⟩ : BufTy).Contents (Elt F)))
def b19 (j : ℕ) (s : State F) : (⟨S_, .i32⟩ : BufTy).Contents (Elt F) :=
  constantI S_ 32 0#32
def b20 (j : ℕ) (s : State F) : (⟨S_, .i1⟩ : BufTy).Contents (Elt F) :=
  cmpi .slt ((b18 j s)) ((b19 j s))
def b21 (j : ℕ) (s : State F) : (⟨S_, .i32⟩ : BufTy).Contents (Elt F) :=
  constantI S_ 32 20#32
def b22 (j : ℕ) (s : State F) : (⟨S_, .i32⟩ : BufTy).Contents (Elt F) :=
  addi ((b18 j s)) ((b21 j s))
def b23 (j : ℕ) (s : State F) : (⟨S_, .i32⟩ : BufTy).Contents (Elt F) :=
  select ((b20 j s)) ((b22 j s)) ((b18 j s))
def b24 (j : ℕ) (s : State F) : (⟨S_, .i32⟩ : BufTy).Contents (Elt F) :=
  constantI S_ 32 0#32
def b25 (j : ℕ) (s : State F) : (⟨S_, .i32⟩ : BufTy).Contents (Elt F) :=
  constantI S_ 32 0#32
def b26 (j : ℕ) (s : State F) : (⟨S_, .i1⟩ : BufTy).Contents (Elt F) :=
  cmpi .slt ((b24 j s)) ((b25 j s))
def b27 (j : ℕ) (s : State F) : (⟨S_, .i32⟩ : BufTy).Contents (Elt F) :=
  constantI S_ 32 0#32
def b28 (j : ℕ) (s : State F) : (⟨S_, .i32⟩ : BufTy).Contents (Elt F) :=
  constantI S_ 32 256#32
def b29 (j : ℕ) (s : State F) : (⟨S_, .i32⟩ : BufTy).Contents (Elt F) :=
  addi ((b27 j s)) ((b28 j s))
def b30 (j : ℕ) (s : State F) : (⟨S_, .i32⟩ : BufTy).Contents (Elt F) :=
  constantI S_ 32 0#32
def b31 (j : ℕ) (s : State F) : (⟨S_, .i32⟩ : BufTy).Contents (Elt F) :=
  select ((b26 j s)) ((b29 j s)) ((b30 j s))
def b32 (j : ℕ) (s : State F) : (⟨S_, .i32⟩ : BufTy).Contents (Elt F) :=
  constantI S_ 32 0#32
def b33 (j : ℕ) (s : State F) : (⟨S_, .i32⟩ : BufTy).Contents (Elt F) :=
  constantI S_ 32 0#32
def b34 (j : ℕ) (s : State F) : (⟨S_, .i1⟩ : BufTy).Contents (Elt F) :=
  cmpi .slt ((b32 j s)) ((b33 j s))
def b35 (j : ℕ) (s : State F) : (⟨S_, .i32⟩ : BufTy).Contents (Elt F) :=
  constantI S_ 32 0#32
def b36 (j : ℕ) (s : State F) : (⟨S_, .i32⟩ : BufTy).Contents (Elt F) :=
  constantI S_ 32 2#32
def b37 (j : ℕ) (s : State F) : (⟨S_, .i32⟩ : BufTy).Contents (Elt F) :=
  addi ((b35 j s)) ((b36 j s))
def b38 (j : ℕ) (s : State F) : (⟨S_, .i32⟩ : BufTy).Contents (Elt F) :=
  constantI S_ 32 0#32
def b39 (j : ℕ) (s : State F) : (⟨S_, .i32⟩ : BufTy).Contents (Elt F) :=
  select ((b34 j s)) ((b37 j s)) ((b38 j s))
def b40 (j : ℕ) (s : State F) : (⟨S1x256x2, .f32⟩ : BufTy).Contents (Elt F) :=
  Host.dynamicSlice S1x256x2 (s.main_v0_1) (fun k => (((![(b23 j s), (b31 j s), (b39 j s)] : Fin 3 → (⟨S_, .i32⟩ : BufTy).Contents (Elt F))) k (Shape.Idx.first h_S_)).toInt) sliceFits_S20x256x2_S1x256x2
def b41 (j : ℕ) (s : State F) : (⟨S256x2, .f32⟩ : BufTy).Contents (Elt F) :=
  shapeCast S256x2 ((b40 j s)) shapeCasts_S1x256x2_S256x2
def b42 (j : ℕ) (s : State F) : (⟨S_, .i32⟩ : BufTy).Contents (Elt F) :=
  constantI S_ 32 0#32
def b43 (j : ℕ) (s : State F) : (⟨S256, .i32⟩ : BufTy).Contents (Elt F) :=
  broadcastInDim S256 ![] bcast_S_S256 ((b42 j s))
def b44 (j : ℕ) (s : State F) : (⟨S256, .i1⟩ : BufTy).Contents (Elt F) :=
  cmpi .slt ((b17 j s)) ((b43 j s))
def b45 (j : ℕ) (s : State F) : (⟨S_, .i32⟩ : BufTy).Contents (Elt F) :=
  constantI S_ 32 256#32
def b46 (j : ℕ) (s : State F) : (⟨S256, .i32⟩ : BufTy).Contents (Elt F) :=
  broadcastInDim S256 ![] bcast_S_S256 ((b45 j s))
def b47 (j : ℕ) (s : State F) : (⟨S256, .i32⟩ : BufTy).Contents (Elt F) :=
  addi ((b17 j s)) ((b46 j s))
def b48 (j : ℕ) (s : State F) : (⟨S256, .i32⟩ : BufTy).Contents (Elt F) :=
  select ((b44 j s)) ((b47 j s)) ((b17 j s))
def b49 (j : ℕ) (s : State F) : (⟨S256x1, .i32⟩ : BufTy).Contents (Elt F) :=
  broadcastInDim S256x1 ![0] bcast_S256_S256x1_0 ((b48 j s))
def b50 (j : ℕ) (s : State F) : (⟨S256x2, .f32⟩ : BufTy).Contents (Elt F) :=
  Host.gather gather_S256x2_S256x1_S256x2_1_0_n_n_0_1_12 ((b41 j s)) ((b49 j s))
def b51 (j : ℕ) (s : State F) : (⟨S_, .i32⟩ : BufTy).Contents (Elt F) :=
  constantI S_ 32 0#32
def b52 (j : ℕ) (s : State F) : (⟨S256, .i32⟩ : BufTy).Contents (Elt F) :=
  broadcastInDim S256 ![] bcast_S_S256 ((b51 j s))
def b53 (j : ℕ) (s : State F) : (⟨S256, .i1⟩ : BufTy).Contents (Elt F) :=
  cmpi .slt ((b17 j s)) ((b52 j s))
def b54 (j : ℕ) (s : State F) : (⟨S_, .i32⟩ : BufTy).Contents (Elt F) :=
  constantI S_ 32 256#32
def b55 (j : ℕ) (s : State F) : (⟨S256, .i32⟩ : BufTy).Contents (Elt F) :=
  broadcastInDim S256 ![] bcast_S_S256 ((b54 j s))
def b56 (j : ℕ) (s : State F) : (⟨S256, .i32⟩ : BufTy).Contents (Elt F) :=
  addi ((b17 j s)) ((b55 j s))
def b57 (j : ℕ) (s : State F) : (⟨S256, .i32⟩ : BufTy).Contents (Elt F) :=
  select ((b53 j s)) ((b56 j s)) ((b17 j s))
def b58 (j : ℕ) (s : State F) : (⟨S256x1, .i32⟩ : BufTy).Contents (Elt F) :=
  broadcastInDim S256x1 ![0] bcast_S256_S256x1_0 ((b57 j s))
def b59 (j : ℕ) (s : State F) : (⟨S256x128, .f32⟩ : BufTy).Contents (Elt F) :=
  Host.gather gather_S256x128_S256x1_S256x128_1_0_n_n_0_1_1128 (s.main_v0_16) ((b58 j s))
def b60 (j : ℕ) (s : State F) : (⟨S_, .i32⟩ : BufTy).Contents (Elt F) :=
  constantI S_ 32 0#32
def b61 (j : ℕ) (s : State F) : (⟨S256, .i32⟩ : BufTy).Contents (Elt F) :=
  broadcastInDim S256 ![] bcast_S_S256 ((b60 j s))
def b62 (j : ℕ) (s : State F) : (⟨S256, .i1⟩ : BufTy).Contents (Elt F) :=
  cmpi .slt ((b17 j s)) ((b61 j s))
def b63 (j : ℕ) (s : State F) : (⟨S_, .i32⟩ : BufTy).Contents (Elt F) :=
  constantI S_ 32 256#32
def b64 (j : ℕ) (s : State F) : (⟨S256, .i32⟩ : BufTy).Contents (Elt F) :=
  broadcastInDim S256 ![] bcast_S_S256 ((b63 j s))
def b65 (j : ℕ) (s : State F) : (⟨S256, .i32⟩ : BufTy).Contents (Elt F) :=
  addi ((b17 j s)) ((b64 j s))
def b66 (j : ℕ) (s : State F) : (⟨S256, .i32⟩ : BufTy).Contents (Elt F) :=
  select ((b62 j s)) ((b65 j s)) ((b17 j s))
def b67 (j : ℕ) (s : State F) : (⟨S256x1, .i32⟩ : BufTy).Contents (Elt F) :=
  broadcastInDim S256x1 ![0] bcast_S256_S256x1_0 ((b66 j s))
def b68 (j : ℕ) (s : State F) : (⟨S256x128, .f32⟩ : BufTy).Contents (Elt F) :=
  Host.gather gather_S256x128_S256x1_S256x128_1_0_n_n_0_1_1128 (s.main_v0_17) ((b67 j s))
def b69 (j : ℕ) (s : State F) : (⟨S_, .i32⟩ : BufTy).Contents (Elt F) :=
  id ((constantI S_ 32 (BitVec.ofNat 32 j) : (⟨S_, .i32⟩ : BufTy).Contents (Elt F)))
def b70 (j : ℕ) (s : State F) : (⟨S_, .i32⟩ : BufTy).Contents (Elt F) :=
  constantI S_ 32 0#32
def b71 (j : ℕ) (s : State F) : (⟨S_, .i1⟩ : BufTy).Contents (Elt F) :=
  cmpi .slt ((b69 j s)) ((b70 j s))
def b72 (j : ℕ) (s : State F) : (⟨S_, .i32⟩ : BufTy).Contents (Elt F) :=
  constantI S_ 32 20#32
def b73 (j : ℕ) (s : State F) : (⟨S_, .i32⟩ : BufTy).Contents (Elt F) :=
  addi ((b69 j s)) ((b72 j s))
def b74 (j : ℕ) (s : State F) : (⟨S_, .i32⟩ : BufTy).Contents (Elt F) :=
  select ((b71 j s)) ((b73 j s)) ((b69 j s))
def b75 (j : ℕ) (s : State F) : (⟨S_, .i32⟩ : BufTy).Contents (Elt F) :=
  constantI S_ 32 0#32
def b76 (j : ℕ) (s : State F) : (⟨S_, .i32⟩ : BufTy).Contents (Elt F) :=
  constantI S_ 32 0#32
def b77 (j : ℕ) (s : State F) : (⟨S_, .i1⟩ : BufTy).Contents (Elt F) :=
  cmpi .slt ((b75 j s)) ((b76 j s))
def b78 (j : ℕ) (s : State F) : (⟨S_, .i32⟩ : BufTy).Contents (Elt F) :=
  constantI S_ 32 0#32
def b79 (j : ℕ) (s : State F) : (⟨S_, .i32⟩ : BufTy).Contents (Elt F) :=
  constantI S_ 32 256#32
def b80 (j : ℕ) (s : State F) : (⟨S_, .i32⟩ : BufTy).Contents (Elt F) :=
  addi ((b78 j s)) ((b79 j s))
def b81 (j : ℕ) (s : State F) : (⟨S_, .i32⟩ : BufTy).Contents (Elt F) :=
  constantI S_ 32 0#32
def b82 (j : ℕ) (s : State F) : (⟨S_, .i32⟩ : BufTy).Contents (Elt F) :=
  select ((b77 j s)) ((b80 j s)) ((b81 j s))
def b83 (j : ℕ) (s : State F) : (⟨S_, .i32⟩ : BufTy).Contents (Elt F) :=
  constantI S_ 32 0#32
def b84 (j : ℕ) (s : State F) : (⟨S_, .i32⟩ : BufTy).Contents (Elt F) :=
  constantI S_ 32 0#32
def b85 (j : ℕ) (s : State F) : (⟨S_, .i1⟩ : BufTy).Contents (Elt F) :=
  cmpi .slt ((b83 j s)) ((b84 j s))
def b86 (j : ℕ) (s : State F) : (⟨S_, .i32⟩ : BufTy).Contents (Elt F) :=
  constantI S_ 32 0#32
def b87 (j : ℕ) (s : State F) : (⟨S_, .i32⟩ : BufTy).Contents (Elt F) :=
  constantI S_ 32 256#32
def b88 (j : ℕ) (s : State F) : (⟨S_, .i32⟩ : BufTy).Contents (Elt F) :=
  addi ((b86 j s)) ((b87 j s))
def b89 (j : ℕ) (s : State F) : (⟨S_, .i32⟩ : BufTy).Contents (Elt F) :=
  constantI S_ 32 0#32
def b90 (j : ℕ) (s : State F) : (⟨S_, .i32⟩ : BufTy).Contents (Elt F) :=
  select ((b85 j s)) ((b88 j s)) ((b89 j s))
def b91 (j : ℕ) (s : State F) : (⟨S_, .i32⟩ : BufTy).Contents (Elt F) :=
  constantI S_ 32 0#32
def b92 (j : ℕ) (s : State F) : (⟨S_, .i32⟩ : BufTy).Contents (Elt F) :=
  constantI S_ 32 0#32
def b93 (j : ℕ) (s : State F) : (⟨S_, .i1⟩ : BufTy).Contents (Elt F) :=
  cmpi .slt ((b91 j s)) ((b92 j s))
def b94 (j : ℕ) (s : State F) : (⟨S_, .i32⟩ : BufTy).Contents (Elt F) :=
  constantI S_ 32 0#32
def b95 (j : ℕ) (s : State F) : (⟨S_, .i32⟩ : BufTy).Contents (Elt F) :=
  constantI S_ 32 16#32
def b96 (j : ℕ) (s : State F) : (⟨S_, .i32⟩ : BufTy).Contents (Elt F) :=
  addi ((b94 j s)) ((b95 j s))
def b97 (j : ℕ) (s : State F) : (⟨S_, .i32⟩ : BufTy).Contents (Elt F) :=
  constantI S_ 32 0#32
def b98 (j : ℕ) (s : State F) : (⟨S_, .i32⟩ : BufTy).Contents (Elt F) :=
  select ((b93 j s)) ((b96 j s)) ((b97 j s))
def b99 (j : ℕ) (s : State F) : (⟨S1x256x256x16, .f32⟩ : BufTy).Contents (Elt F) :=
  Host.dynamicSlice S1x256x256x16 (s.main_v0_2) (fun k => (((![(b74 j s), (b82 j s), (b90 j s), (b98 j s)] : Fin 4 → (⟨S_, .i32⟩ : BufTy).Contents (Elt F))) k (Shape.Idx.first h_S_)).toInt) sliceFits_S20x256x256x16_S1x256x256x16
def b100 (j : ℕ) (s : State F) : (⟨S256x256x16, .f32⟩ : BufTy).Contents (Elt F) :=
  shapeCast S256x256x16 ((b99 j s)) shapeCasts_S1x256x256x16_S256x256x16
def b101 (j : ℕ) (s : State F) : (⟨S256x16x128, .f32⟩ : BufTy).Contents (Elt F) :=
  Host.dotGeneral dot_S256x256x16_S256x128_S256x16x128_1_0_02_1_n_n none ((b100 j s)) ((b59 j s))
def b102 (j : ℕ) (s : State F) : (⟨S256x2048, .f32⟩ : BufTy).Contents (Elt F) :=
  shapeCast S256x2048 ((b101 j s)) shapeCasts_S256x16x128_S256x2048
def b103 (j : ℕ) (s : State F) : (⟨S256x64, .f32⟩ : BufTy).Contents (Elt F) :=
  Host.dotGeneral dot_S256x2_S2x64_S256x64_1_0_0_1_n_n none ((b50 j s)) (s.main_v0_3)
def b104 (j : ℕ) (s : State F) : (⟨S1x64, .f32⟩ : BufTy).Contents (Elt F) :=
  broadcastInDim S1x64 ![1] bcast_S64_S1x64_1 (s.main_v0_4)
def b105 (j : ℕ) (s : State F) : (⟨S256x64, .f32⟩ : BufTy).Contents (Elt F) :=
  broadcastInDim S256x64 ![0, 1] bcast_S1x64_S256x64_0_1 ((b104 j s))
def b106 (j : ℕ) (s : State F) : (⟨S256x64, .f32⟩ : BufTy).Contents (Elt F) :=
  addf ((b103 j s)) ((b105 j s))
def b107 (j : ℕ) (s : State F) : (⟨S_, .f32⟩ : BufTy).Contents (Elt F) :=
  constant S_ .f32 0x00000000#32
def b108 (j : ℕ) (s : State F) : (⟨S256x64, .f32⟩ : BufTy).Contents (Elt F) :=
  broadcastInDim S256x64 ![] bcast_S_S256x64 ((b107 j s))
def b109 (j : ℕ) (s : State F) : (⟨S256x64, .f32⟩ : BufTy).Contents (Elt F) :=
  maximumf ((b106 j s)) ((b108 j s))
def b110 (j : ℕ) (s : State F) : (⟨S256x64, .f32⟩ : BufTy).Contents (Elt F) :=
  Host.dotGeneral dot_S256x2048_S2048x64_S256x64_1_0_0_1_n_n none ((b102 j s)) (s.main_v0_5)
def b111 (j : ℕ) (s : State F) : (⟨S1x64, .f32⟩ : BufTy).Contents (Elt F) :=
  broadcastInDim S1x64 ![1] bcast_S64_S1x64_1 (s.main_v0_6)
def b112 (j : ℕ) (s : State F) : (⟨S256x64, .f32⟩ : BufTy).Contents (Elt F) :=
  broadcastInDim S256x64 ![0, 1] bcast_S1x64_S256x64_0_1 ((b111 j s))
def b113 (j : ℕ) (s : State F) : (⟨S256x64, .f32⟩ : BufTy).Contents (Elt F) :=
  addf ((b110 j s)) ((b112 j s))
def b114 (j : ℕ) (s : State F) : (⟨S_, .f32⟩ : BufTy).Contents (Elt F) :=
  constant S_ .f32 0x00000000#32
def b115 (j : ℕ) (s : State F) : (⟨S256x64, .f32⟩ : BufTy).Contents (Elt F) :=
  broadcastInDim S256x64 ![] bcast_S_S256x64 ((b114 j s))
def b116 (j : ℕ) (s : State F) : (⟨S256x64, .f32⟩ : BufTy).Contents (Elt F) :=
  maximumf ((b113 j s)) ((b115 j s))
def b117 (j : ℕ) (s : State F) : (⟨S256x128, .f32⟩ : BufTy).Contents (Elt F) :=
  concatenate S256x128 1 [⟨S256x64, ((b109 j s))⟩, ⟨S256x64, ((b116 j s))⟩] concatenates_S256x64_S256x64_S256x128_d1
def b118 (j : ℕ) (s : State F) : (⟨S128x512, .f32⟩ : BufTy).Contents (Elt F) :=
  transpose S128x512 [1, 0] (s.main_v0_7) transposes_S512x128_S128x512_1_0
def b119 (j : ℕ) (s : State F) : (⟨S256x512, .f32⟩ : BufTy).Contents (Elt F) :=
  Host.dotGeneral dot_S256x128_S128x512_S256x512_1_0_0_1_n_n none ((b117 j s)) ((b118 j s))
def b120 (j : ℕ) (s : State F) : (⟨S1x512, .f32⟩ : BufTy).Contents (Elt F) :=
  broadcastInDim S1x512 ![1] bcast_S512_S1x512_1 (s.main_v0_8)
def b121 (j : ℕ) (s : State F) : (⟨S256x512, .f32⟩ : BufTy).Contents (Elt F) :=
  broadcastInDim S256x512 ![0, 1] bcast_S1x512_S256x512_0_1 ((b120 j s))
def b122 (j : ℕ) (s : State F) : (⟨S256x512, .f32⟩ : BufTy).Contents (Elt F) :=
  addf ((b119 j s)) ((b121 j s))
def b123 (j : ℕ) (s : State F) : (⟨S128x512, .f32⟩ : BufTy).Contents (Elt F) :=
  transpose S128x512 [1, 0] (s.main_v0_9) transposes_S512x128_S128x512_1_0
def b124 (j : ℕ) (s : State F) : (⟨S256x512, .f32⟩ : BufTy).Contents (Elt F) :=
  Host.dotGeneral dot_S256x128_S128x512_S256x512_1_0_0_1_n_n none ((b59 j s)) ((b123 j s))
def b125 (j : ℕ) (s : State F) : (⟨S256x512, .f32⟩ : BufTy).Contents (Elt F) :=
  addf ((b122 j s)) ((b124 j s))
def b126 (j : ℕ) (s : State F) : (⟨S1x512, .f32⟩ : BufTy).Contents (Elt F) :=
  broadcastInDim S1x512 ![1] bcast_S512_S1x512_1 (s.main_v0_10)
def b127 (j : ℕ) (s : State F) : (⟨S256x512, .f32⟩ : BufTy).Contents (Elt F) :=
  broadcastInDim S256x512 ![0, 1] bcast_S1x512_S256x512_0_1 ((b126 j s))
def b128 (j : ℕ) (s : State F) : (⟨S256x512, .f32⟩ : BufTy).Contents (Elt F) :=
  addf ((b125 j s)) ((b127 j s))
def b129 (j : ℕ) (s : State F) : (⟨S256x128, .f32⟩ : BufTy).Contents (Elt F) :=
  extractStridedSlice S256x128 ![0, 0] ((b128 j s)) slices_S256x512_S256x128_0_0
def b130 (j : ℕ) (s : State F) : (⟨S256x128, .f32⟩ : BufTy).Contents (Elt F) :=
  extractStridedSlice S256x128 ![0, 128] ((b128 j s)) slices_S256x512_S256x128_0_128
def b131 (j : ℕ) (s : State F) : (⟨S256x128, .f32⟩ : BufTy).Contents (Elt F) :=
  extractStridedSlice S256x128 ![0, 256] ((b128 j s)) slices_S256x512_S256x128_0_256
def b132 (j : ℕ) (s : State F) : (⟨S256x128, .f32⟩ : BufTy).Contents (Elt F) :=
  extractStridedSlice S256x128 ![0, 384] ((b128 j s)) slices_S256x512_S256x128_0_384
def b133 (j : ℕ) (s : State F) : (⟨S256x128, .f32⟩ : BufTy).Contents (Elt F) :=
  Host.negf ((b129 j s))
def b134 (j : ℕ) (s : State F) : (⟨S256x128, .f32⟩ : BufTy).Contents (Elt F) :=
  Host.exp ((b133 j s))
def b135 (j : ℕ) (s : State F) : (⟨S_, .f32⟩ : BufTy).Contents (Elt F) :=
  constant S_ .f32 0x3F800000#32
def b136 (j : ℕ) (s : State F) : (⟨S256x128, .f32⟩ : BufTy).Contents (Elt F) :=
  broadcastInDim S256x128 ![] bcast_S_S256x128 ((b135 j s))
def b137 (j : ℕ) (s : State F) : (⟨S256x128, .f32⟩ : BufTy).Contents (Elt F) :=
  addf ((b136 j s)) ((b134 j s))
def b138 (j : ℕ) (s : State F) : (⟨S_, .f32⟩ : BufTy).Contents (Elt F) :=
  constant S_ .f32 0x3F800000#32
def b139 (j : ℕ) (s : State F) : (⟨S256x128, .f32⟩ : BufTy).Contents (Elt F) :=
  broadcastInDim S256x128 ![] bcast_S_S256x128 ((b138 j s))
def b140 (j : ℕ) (s : State F) : (⟨S256x128, .f32⟩ : BufTy).Contents (Elt F) :=
  Host.divf ((b139 j s)) ((b137 j s))
def b141 (j : ℕ) (s : State F) : (⟨S256x128, .f32⟩ : BufTy).Contents (Elt F) :=
  Host.negf ((b130 j s))
def b142 (j : ℕ) (s : State F) : (⟨S256x128, .f32⟩ : BufTy).Contents (Elt F) :=
  Host.exp ((b141 j s))
def b143 (j : ℕ) (s : State F) : (⟨S_, .f32⟩ : BufTy).Contents (Elt F) :=
  constant S_ .f32 0x3F800000#32
def b144 (j : ℕ) (s : State F) : (⟨S256x128, .f32⟩ : BufTy).Contents (Elt F) :=
  broadcastInDim S256x128 ![] bcast_S_S256x128 ((b143 j s))
def b145 (j : ℕ) (s : State F) : (⟨S256x128, .f32⟩ : BufTy).Contents (Elt F) :=
  addf ((b144 j s)) ((b142 j s))
def b146 (j : ℕ) (s : State F) : (⟨S_, .f32⟩ : BufTy).Contents (Elt F) :=
  constant S_ .f32 0x3F800000#32
def b147 (j : ℕ) (s : State F) : (⟨S256x128, .f32⟩ : BufTy).Contents (Elt F) :=
  broadcastInDim S256x128 ![] bcast_S_S256x128 ((b146 j s))
def b148 (j : ℕ) (s : State F) : (⟨S256x128, .f32⟩ : BufTy).Contents (Elt F) :=
  Host.divf ((b147 j s)) ((b145 j s))
def b149 (j : ℕ) (s : State F) : (⟨S256x128, .f32⟩ : BufTy).Contents (Elt F) :=
  Host.tanh ((b131 j s))
def b150 (j : ℕ) (s : State F) : (⟨S256x128, .f32⟩ : BufTy).Contents (Elt F) :=
  Host.negf ((b132 j s))
def b151 (j : ℕ) (s : State F) : (⟨S256x128, .f32⟩ : BufTy).Contents (Elt F) :=
  Host.exp ((b150 j s))
def b152 (j : ℕ) (s : State F) : (⟨S_, .f32⟩ : BufTy).Contents (Elt F) :=
  constant S_ .f32 0x3F800000#32
def b153 (j : ℕ) (s : State F) : (⟨S256x128, .f32⟩ : BufTy).Contents (Elt F) :=
  broadcastInDim S256x128 ![] bcast_S_S256x128 ((b152 j s))
def b154 (j : ℕ) (s : State F) : (⟨S256x128, .f32⟩ : BufTy).Contents (Elt F) :=
  addf ((b153 j s)) ((b151 j s))
def b155 (j : ℕ) (s : State F) : (⟨S_, .f32⟩ : BufTy).Contents (Elt F) :=
  constant S_ .f32 0x3F800000#32
def b156 (j : ℕ) (s : State F) : (⟨S256x128, .f32⟩ : BufTy).Contents (Elt F) :=
  broadcastInDim S256x128 ![] bcast_S_S256x128 ((b155 j s))
def b157 (j : ℕ) (s : State F) : (⟨S256x128, .f32⟩ : BufTy).Contents (Elt F) :=
  Host.divf ((b156 j s)) ((b154 j s))
def b158 (j : ℕ) (s : State F) : (⟨S256x128, .f32⟩ : BufTy).Contents (Elt F) :=
  mulf ((b148 j s)) ((b68 j s))
def b159 (j : ℕ) (s : State F) : (⟨S256x128, .f32⟩ : BufTy).Contents (Elt F) :=
  mulf ((b140 j s)) ((b149 j s))
def b160 (j : ℕ) (s : State F) : (⟨S256x128, .f32⟩ : BufTy).Contents (Elt F) :=
  addf ((b158 j s)) ((b159 j s))
def b161 (j : ℕ) (s : State F) : (⟨S256x128, .f32⟩ : BufTy).Contents (Elt F) :=
  Host.tanh ((b160 j s))
def b162 (j : ℕ) (s : State F) : (⟨S256x128, .f32⟩ : BufTy).Contents (Elt F) :=
  mulf ((b157 j s)) ((b161 j s))
def b163 (j : ℕ) (s : State F) : (⟨S128x5, .f32⟩ : BufTy).Contents (Elt F) :=
  transpose S128x5 [1, 0] (s.main_v0_11) transposes_S5x128_S128x5_1_0
def b164 (j : ℕ) (s : State F) : (⟨S256x5, .f32⟩ : BufTy).Contents (Elt F) :=
  Host.dotGeneral dot_S256x128_S128x5_S256x5_1_0_0_1_n_n none ((b162 j s)) ((b163 j s))
def b165 (j : ℕ) (s : State F) : (⟨S1x5, .f32⟩ : BufTy).Contents (Elt F) :=
  broadcastInDim S1x5 ![1] bcast_S5_S1x5_1 (s.main_v0_12)
def b166 (j : ℕ) (s : State F) : (⟨S256x5, .f32⟩ : BufTy).Contents (Elt F) :=
  broadcastInDim S256x5 ![0, 1] bcast_S1x5_S256x5_0_1 ((b165 j s))
def b167 (j : ℕ) (s : State F) : (⟨S256x5, .f32⟩ : BufTy).Contents (Elt F) :=
  addf ((b164 j s)) ((b166 j s))
def b168 (j : ℕ) (s : State F) : (⟨S_, .i32⟩ : BufTy).Contents (Elt F) :=
  constantI S_ 32 256#32
def b169 (j : ℕ) (s : State F) : (⟨S_, .i32⟩ : BufTy).Contents (Elt F) :=
  muli ((constantI S_ 32 (BitVec.ofNat 32 j) : (⟨S_, .i32⟩ : BufTy).Contents (Elt F))) ((b168 j s))
def b170 (j : ℕ) (s : State F) : (⟨S_, .i32⟩ : BufTy).Contents (Elt F) := b169 j s
theorem b170_id (j : ℕ) (s : State F) : b170 j s = b169 j s := rfl
def b171 (j : ℕ) (s : State F) : (⟨S256, .i32⟩ : BufTy).Contents (Elt F) :=
  broadcastInDim S256 ![] bcast_S_S256 ((b170 j s))
def b172 (j : ℕ) (s : State F) : (⟨S256, .i32⟩ : BufTy).Contents (Elt F) :=
  addi ((b171 j s)) ((b17 j s))
def b173 (j : ℕ) (s : State F) : (⟨S_, .i32⟩ : BufTy).Contents (Elt F) :=
  constantI S_ 32 0#32
def b174 (j : ℕ) (s : State F) : (⟨S256, .i32⟩ : BufTy).Contents (Elt F) :=
  broadcastInDim S256 ![] bcast_S_S256 ((b173 j s))
def b175 (j : ℕ) (s : State F) : (⟨S256, .i1⟩ : BufTy).Contents (Elt F) :=
  cmpi .slt ((b172 j s)) ((b174 j s))
def b176 (j : ℕ) (s : State F) : (⟨S_, .i32⟩ : BufTy).Contents (Elt F) :=
  constantI S_ 32 5120#32
def b177 (j : ℕ) (s : State F) : (⟨S256, .i32⟩ : BufTy).Contents (Elt F) :=
  broadcastInDim S256 ![] bcast_S_S256 ((b176 j s))
def b178 (j : ℕ) (s : State F) : (⟨S256, .i32⟩ : BufTy).Contents (Elt F) :=
  addi ((b172 j s)) ((b177 j s))
def b179 (j : ℕ) (s : State F) : (⟨S256, .i32⟩ : BufTy).Contents (Elt F) :=
  select ((b175 j s)) ((b178 j s)) ((b172 j s))
def b180 (j : ℕ) (s : State F) : (⟨S256x1, .i32⟩ : BufTy).Contents (Elt F) :=
  broadcastInDim S256x1 ![0] bcast_S256_S256x1_0 ((b179 j s))
def b181 (j : ℕ) (s : State F) : (⟨S5120x5, .f32⟩ : BufTy).Contents (Elt F) :=
  Host.scatter scatter_S5120x5_S256x1_S256x5_1_0_0_1 (fun _ b => b) (s.main_v0_15) ((b180 j s)) ((b167 j s))
def b182 (j : ℕ) (s : State F) : (⟨S_, .i32⟩ : BufTy).Contents (Elt F) :=
  constantI S_ 32 0#32
def b183 (j : ℕ) (s : State F) : (⟨S256, .i32⟩ : BufTy).Contents (Elt F) :=
  broadcastInDim S256 ![] bcast_S_S256 ((b182 j s))
def b184 (j : ℕ) (s : State F) : (⟨S256, .i1⟩ : BufTy).Contents (Elt F) :=
  cmpi .slt ((b17 j s)) ((b183 j s))
def b185 (j : ℕ) (s : State F) : (⟨S_, .i32⟩ : BufTy).Contents (Elt F) :=
  constantI S_ 32 256#32
def b186 (j : ℕ) (s : State F) : (⟨S256, .i32⟩ : BufTy).Contents (Elt F) :=
  broadcastInDim S256 ![] bcast_S_S256 ((b185 j s))
def b187 (j : ℕ) (s : State F) : (⟨S256, .i32⟩ : BufTy).Contents (Elt F) :=
  addi ((b17 j s)) ((b186 j s))
def b188 (j : ℕ) (s : State F) : (⟨S256, .i32⟩ : BufTy).Contents (Elt F) :=
  select ((b184 j s)) ((b187 j s)) ((b17 j s))
def b189 (j : ℕ) (s : State F) : (⟨S256x1, .i32⟩ : BufTy).Contents (Elt F) :=
  broadcastInDim S256x1 ![0] bcast_S256_S256x1_0 ((b188 j s))
def b190 (j : ℕ) (s : State F) : (⟨S256x128, .f32⟩ : BufTy).Contents (Elt F) :=
  Host.scatter scatter_S256x128_S256x1_S256x128_1_0_0_1 (fun _ b => b) (s.main_v0_16) ((b189 j s)) ((b162 j s))
def b191 (j : ℕ) (s : State F) : (⟨S_, .i32⟩ : BufTy).Contents (Elt F) :=
  constantI S_ 32 0#32
def b192 (j : ℕ) (s : State F) : (⟨S256, .i32⟩ : BufTy).Contents (Elt F) :=
  broadcastInDim S256 ![] bcast_S_S256 ((b191 j s))
def b193 (j : ℕ) (s : State F) : (⟨S256, .i1⟩ : BufTy).Contents (Elt F) :=
  cmpi .slt ((b17 j s)) ((b192 j s))
def b194 (j : ℕ) (s : State F) : (⟨S_, .i32⟩ : BufTy).Contents (Elt F) :=
  constantI S_ 32 256#32
def b195 (j : ℕ) (s : State F) : (⟨S256, .i32⟩ : BufTy).Contents (Elt F) :=
  broadcastInDim S256 ![] bcast_S_S256 ((b194 j s))
def b196 (j : ℕ) (s : State F) : (⟨S256, .i32⟩ : BufTy).Contents (Elt F) :=
  addi ((b17 j s)) ((b195 j s))
def b197 (j : ℕ) (s : State F) : (⟨S256, .i32⟩ : BufTy).Contents (Elt F) :=
  select ((b193 j s)) ((b196 j s)) ((b17 j s))
def b198 (j : ℕ) (s : State F) : (⟨S256x1, .i32⟩ : BufTy).Contents (Elt F) :=
  broadcastInDim S256x1 ![0] bcast_S256_S256x1_0 ((b197 j s))
def b199 (j : ℕ) (s : State F) : (⟨S256x128, .f32⟩ : BufTy).Contents (Elt F) :=
  Host.scatter scatter_S256x128_S256x1_S256x128_1_0_0_1 (fun _ b => b) (s.main_v0_17) ((b198 j s)) ((b160 j s))

/-- The state @main hands the first trip, of the arguments it copies in. -/
def init (main_arg3 : (⟨S5120x5, .f32⟩ : BufTy).Contents (Elt F)) (main_arg1 : (⟨S256x128, .f32⟩ : BufTy).Contents (Elt F)) (main_arg2 : (⟨S256x128, .f32⟩ : BufTy).Contents (Elt F)) (main_arg5 : (⟨S20x256, .i32⟩ : BufTy).Contents (Elt F)) (main_arg0 : (⟨S20x256x2, .f32⟩ : BufTy).Contents (Elt F)) (main_arg4 : (⟨S20x256x256x16, .f32⟩ : BufTy).Contents (Elt F)) (main_arg6 : (⟨S2x64, .f32⟩ : BufTy).Contents (Elt F)) (main_arg7 : (⟨S64, .f32⟩ : BufTy).Contents (Elt F)) (main_arg8 : (⟨S2048x64, .f32⟩ : BufTy).Contents (Elt F)) (main_arg9 : (⟨S64, .f32⟩ : BufTy).Contents (Elt F)) (main_arg10 : (⟨S512x128, .f32⟩ : BufTy).Contents (Elt F)) (main_arg11 : (⟨S512, .f32⟩ : BufTy).Contents (Elt F)) (main_arg12 : (⟨S512x128, .f32⟩ : BufTy).Contents (Elt F)) (main_arg13 : (⟨S512, .f32⟩ : BufTy).Contents (Elt F)) (main_arg14 : (⟨S5x128, .f32⟩ : BufTy).Contents (Elt F)) (main_arg15 : (⟨S5, .f32⟩ : BufTy).Contents (Elt F)) : State F :=
  { main_v0_15 := main_arg3, main_v0_16 := main_arg1, main_v0_17 := main_arg2, main_v0_0 := main_arg5, main_v0_1 := main_arg0, main_v0_2 := main_arg4, main_v0_3 := main_arg6, main_v0_4 := main_arg7, main_v0_5 := main_arg8, main_v0_6 := main_arg9, main_v0_7 := main_arg10, main_v0_8 := main_arg11, main_v0_9 := main_arg12, main_v0_10 := main_arg13, main_v0_11 := main_arg14, main_v0_12 := main_arg15 }

/-- One trip. -/
def step (j : ℕ) (s : State F) : State F :=
  { main_v0_15 := b181 j s, main_v0_16 := b190 j s, main_v0_17 := b199 j s, main_v0_0 := s.main_v0_0, main_v0_1 := s.main_v0_1, main_v0_2 := s.main_v0_2, main_v0_3 := s.main_v0_3, main_v0_4 := s.main_v0_4, main_v0_5 := s.main_v0_5, main_v0_6 := s.main_v0_6, main_v0_7 := s.main_v0_7, main_v0_8 := s.main_v0_8, main_v0_9 := s.main_v0_9, main_v0_10 := s.main_v0_10, main_v0_11 := s.main_v0_11, main_v0_12 := s.main_v0_12 }
theorem step_main_v0_15 (j : ℕ) (s : State F) : (step j s).main_v0_15 = b181 j s := by
  unfold step; dsimp only
theorem step_main_v0_16 (j : ℕ) (s : State F) : (step j s).main_v0_16 = b190 j s := by
  unfold step; dsimp only
theorem step_main_v0_17 (j : ℕ) (s : State F) : (step j s).main_v0_17 = b199 j s := by
  unfold step; dsimp only

/-- `main_v1`, which the operations after the loop make, of the loop's last state. -/
def R_main_v1 (s : State F) : (⟨S20x256x5, .f32⟩ : BufTy).Contents (Elt F) :=
  shapeCast _ (s.main_v0_15) shapeCasts_S5120x5_S20x256x5

end Cert.RefStep

end
-- ==== Proof.Bridge.lean ====
/- The operations that kernel and reference spell differently, one lemma each, over the extended reals: a bias row, the
   logistic function, the hyperbolic tangent, the rectifier, and the sums of hidden rows per grid cell, which the
   kernel makes as sixteen stacked products and the reference as one product and a reshape. -/
module

public import proofs.«01_k».proof.Proof.KernelOut
public import proofs.«01_k».proof.Proof.RefStep
public import Idealize.ShloMosaic.Lib.Pointwise
public import Idealize.ShloMosaic.Lib.KernelVsHost

@[expose] public section

set_option maxRecDepth 16384

noncomputable section

namespace Cert.Bridge

open Idealize.ShloMosaic Idealize.ShloMosaic.TcCoe Idealize.SL.Sem

section Bias
open Cert.KernelIdeal

/-- A bias of 64 entries, as the kernel's row, spread over the rows of a block. -/
theorem bias64 (x : FVec Ideal S64 .f32) (h1 : S64.ShapeCasts S1x64) (h2 : S1x64.ShapeCasts S1x64) (hb : S1x64.Broadcasts S256x64)
    (hd : S64.BroadcastsInDim S1x64 ![1]) (he : S1x64.BroadcastsInDim S256x64 ![0, 1]) :
    broadcastTo S256x64 (shapeCast S1x64 (shapeCast S1x64 x h1) h2) hb
      = broadcastInDim S256x64 ![0, 1] he (broadcastInDim S1x64 ![1] hd x) := by
  funext i
  idx_vars i
  pointwise

/-- The same of a bias of 512 entries. -/
theorem bias512 (x : FVec Ideal S512 .f32) (h1 : S512.ShapeCasts S1x512) (h2 : S1x512.ShapeCasts S1x512)
    (hb : S1x512.Broadcasts S256x512) (hd : S512.BroadcastsInDim S1x512 ![1]) (he : S1x512.BroadcastsInDim S256x512 ![0, 1]) :
    broadcastTo S256x512 (shapeCast S1x512 (shapeCast S1x512 x h1) h2) hb
      = broadcastInDim S256x512 ![0, 1] he (broadcastInDim S1x512 ![1] hd x) := by
  funext i
  idx_vars i
  pointwise

/-- The same of a bias of 5 entries. -/
theorem bias5 (x : FVec Ideal S5 .f32) (h1 : S5.ShapeCasts S1x5) (h2 : S1x5.ShapeCasts S1x5) (hb : S1x5.Broadcasts S256x5)
    (hd : S5.BroadcastsInDim S1x5 ![1]) (he : S1x5.BroadcastsInDim S256x5 ![0, 1]) :
    broadcastTo S256x5 (shapeCast S1x5 (shapeCast S1x5 x h1) h2) hb
      = broadcastInDim S256x5 ![0, 1] he (broadcastInDim S1x5 ![1] hd x) := by
  funext i
  idx_vars i
  pointwise

end Bias

section Gates
open Cert.ReferenceIdeal

/-- The logistic function is `1 / (1 + exp (-x))`. -/
theorem logistic_eq (x : FVec Ideal S256x128 .f32) (h : S_.BroadcastsInDim S256x128 ![]) :
    logistic x = Host.divf (broadcastInDim S256x128 ![] h (constant S_ .f32 0x3F800000#32))
      (addf (broadcastInDim S256x128 ![] h (constant S_ .f32 0x3F800000#32)) (Host.exp (Host.negf x))) := by
  funext i
  pointwise
  rfl

/-- The hyperbolic tangent in a kernel is the host's. -/
theorem tanh_eq (x : FVec Ideal S256x128 .f32) : tanh x = Host.tanh x := by
  funext i
  rfl

end Gates

section Social
open Cert.KernelIdeal Cert.KernelIdeal.Gen

/-- Sixteen blocks of 256 rows, one under the other, set side by side. -/
def stack (y : FVec Ideal S4096x128 .f32) : FVec Ideal S256x2048 .f32 :=
  concatenate S256x2048 1 [⟨S256x128, extractStridedSlice S256x128 ![0, 0] y slices_S4096x128_o0_0_S256x128⟩,
      ⟨S256x128, extractStridedSlice S256x128 ![256, 0] y slices_S4096x128_o256_0_S256x128⟩,
      ⟨S256x128, extractStridedSlice S256x128 ![512, 0] y slices_S4096x128_o512_0_S256x128⟩,
      ⟨S256x128, extractStridedSlice S256x128 ![768, 0] y slices_S4096x128_o768_0_S256x128⟩,
      ⟨S256x128, extractStridedSlice S256x128 ![1024, 0] y slices_S4096x128_o1024_0_S256x128⟩,
      ⟨S256x128, extractStridedSlice S256x128 ![1280, 0] y slices_S4096x128_o1280_0_S256x128⟩,
      ⟨S256x128, extractStridedSlice S256x128 ![1536, 0] y slices_S4096x128_o1536_0_S256x128⟩,
      ⟨S256x128, extractStridedSlice S256x128 ![1792, 0] y slices_S4096x128_o1792_0_S256x128⟩,
      ⟨S256x128, extractStridedSlice S256x128 ![2048, 0] y slices_S4096x128_o2048_0_S256x128⟩,
      ⟨S256x128, extractStridedSlice S256x128 ![2304, 0] y slices_S4096x128_o2304_0_S256x128⟩,
      ⟨S256x128, extractStridedSlice S256x128 ![2560, 0] y slices_S4096x128_o2560_0_S256x128⟩,
      ⟨S256x128, extractStridedSlice S256x128 ![2816, 0] y slices_S4096x128_o2816_0_S256x128⟩,
      ⟨S256x128, extractStridedSlice S256x128 ![3072, 0] y slices_S4096x128_o3072_0_S256x128⟩,
      ⟨S256x128, extractStridedSlice S256x128 ![3328, 0] y slices_S4096x128_o3328_0_S256x128⟩,
      ⟨S256x128, extractStridedSlice S256x128 ![3584, 0] y slices_S4096x128_o3584_0_S256x128⟩,
      ⟨S256x128, extractStridedSlice S256x128 ![3840, 0] y slices_S4096x128_o3840_0_S256x128⟩]
      concatenates_S256x128_S256x128_S256x128_S256x128_S256x128_S256x128_S256x128_S256x128_S256x128_S256x128_S256x128_S256x128_S256x128_S256x128_S256x128_S256x128_S256x2048_d1

/-- Entry `(n, r)` of the blocks side by side: the block is `r / 128`. -/
theorem stack_apply (y : FVec Ideal S4096x128 .f32) (n : Fin 256) (r : Fin 2048) :
    stack y (ix2 n r : S256x2048.Idx)
      = y (ix2 (⟨r.val / 128 * 256 + n.val, by omega⟩ : Fin 4096) (⟨r.val % 128, by omega⟩ : Fin 128) : S4096x128.Idx) := by
  have hs : ∀ g : Fin 16, S4096x128.Slices ![256 * g.val, 0] S256x128 := by decide
  have e := concatenate_ofFn_apply (t := S256x2048) (s₁ := S256x128) 1 (N := 16)
    (fun g => extractStridedSlice S256x128 ![256 * g.val, 0] y (hs g)) (by exact concatenates_S256x128_S256x128_S256x128_S256x128_S256x128_S256x128_S256x128_S256x128_S256x128_S256x128_S256x128_S256x128_S256x128_S256x128_S256x128_S256x128_S256x2048_d1) rfl 128 rfl
    (ix2 n r : S256x2048.Idx) (⟨r.val / 128, by omega⟩ : Fin 16) rfl (ix2 n (⟨r.val % 128, by omega⟩ : Fin 128) : S256x128.Idx) rfl
    (fun b hb => by
      match b with
      | ⟨0, _⟩ => rfl
      | ⟨1, _⟩ => exact absurd rfl hb)
  refine Eq.trans (Eq.trans ?_ e) ?_
  · rfl
  · pointwise
    refine congrArg y ?_
    congr 1
    apply Fin.ext
    show 256 * (r.val / 128) + n.val = r.val / 128 * 256 + n.val
    omega

/-- The sums of hidden rows per grid cell. The kernel multiplies the sixteen masks, one under the other, with the hidden rows
    and sets the products side by side; the reference contracts the masks with the hidden rows at once. -/
theorem social (x : FVec Ideal S4096x256 .bf16) (h : FVec Ideal S256x128 .f32) (g : FVec Ideal Cert.ReferenceIdeal.S256x256x16 .f32)
    (hx : ∀ (n k : Fin 256) (q : Fin 16), x (ix2 (⟨q.val * 256 + n.val, by omega⟩ : Fin 4096) k : S4096x256.Idx)
      = g (ix3 n k q : Cert.ReferenceIdeal.S256x256x16.Idx))
    (hs : Cert.ReferenceIdeal.S256x16x128.ShapeCasts S256x2048) :
    stack (matmul dot_S4096x256_S256x128_S4096x128_1_0_0_1_n_n none (extf .f32 x bitsLt_bf16_f32) h
        (constant S4096x128 .f32 0x00000000#32))
      = shapeCast S256x2048 (Host.dotGeneral Cert.ReferenceIdeal.dot_S256x256x16_S256x128_S256x16x128_1_0_02_1_n_n none g h)
          hs := by
  funext i
  obtain ⟨n, r, rfl⟩ : ∃ (n : Fin 256) (r : Fin 2048), i = (ix2 n r : S256x2048.Idx) := ⟨_, _, eq_ix2 i⟩
  rw [stack_apply, matmul_zero_eq_dotGeneral]
  pointwise
  exact Finset.sum_congr rfl fun k _ => congrArg (· * _) (hx n k ⟨r.val / 128, by omega⟩)

end Social

end Cert.Bridge
-- ==== Proof.Cell.lean ====
/- One frame: the kernel's new hidden and cell rows, and the frame's outputs, are the reference's, when the rows that the
   frame reads are the same (`Agrees`). -/
module

public import proofs.«01_k».proof.Proof.Bridge

@[expose] public section

set_option maxRecDepth 16384

noncomputable section

namespace Cert.Cell

open Idealize.ShloMosaic Idealize.ShloMosaic.TcCoe Idealize.SL.Sem
open Cert.KernelIdeal Cert.KernelIdeal.Gen Cert.KernelOut
open Cert.RefStep (State b50 b59 b68 b100 b160 b162 b167)

/-- What a frame reads in the kernel is what the reference's trip `j` reads: the hidden and cell rows of the frame's nodes, their
    positions, the masks, and the weights. -/
structure Agrees (b : Blk Ideal) (h c : Vec Ideal S256x128 .f32) (j : ℕ) (s : State Ideal) : Prop where
  hid : k0_pay3 b.prev h = b59 j s
  cell : k0_pay4 b.prev c = b68 j s
  pos : k0_pay5 b.idCol b.pedxy = b50 j s
  mask : ∀ (n k : Fin 256) (q : Fin 16), k0_pay6 b.grids (ix2 (⟨q.val * 256 + n.val, by omega⟩ : Fin 4096) k : S4096x256.Idx)
    = b100 j s (ix3 n k q : Cert.ReferenceIdeal.S256x256x16.Idx)
  wIn : b.wIn = s.main_v0_3
  bIn : ∃ h, b.bIn = shapeCast S1x64 s.main_v0_4 h
  wT : b.wT = s.main_v0_5
  bT : ∃ h, b.bT = shapeCast S1x64 s.main_v0_6 h
  wIh : ∃ h, b.wIh = transpose S128x512 [1, 0] s.main_v0_7 h
  bIh : ∃ h, b.bIh = shapeCast S1x512 s.main_v0_8 h
  wHh : ∃ h, b.wHh = transpose S128x512 [1, 0] s.main_v0_9 h
  bHh : ∃ h, b.bHh = shapeCast S1x512 s.main_v0_10 h
  wOut : ∃ h, b.wOut = transpose S128x5 [1, 0] s.main_v0_11 h
  bOut : ∃ h, b.bOut = shapeCast S1x5 s.main_v0_12 h

variable {b : Blk Ideal} {h c : Vec Ideal S256x128 .f32} {j : ℕ} {s : State Ideal}

/-- A rectified dense layer with 64 outputs, as the kernel and as the reference compute it. -/
theorem layer64 {l k : Shape} (d : DotDims l k S256x64) (x : FVec Ideal l .f32) (w : FVec Ideal k .f32) (v : FVec Ideal S64 .f32)
    (h1 : S64.ShapeCasts S1x64) (hd : S64.BroadcastsInDim S1x64 ![1]) (he : S1x64.BroadcastsInDim S256x64 ![0, 1])
    (hz : S_.BroadcastsInDim S256x64 ![]) :
    maximumf (addf (matmul d none x w (constant S256x64 .f32 0x00000000#32))
        (broadcastTo S256x64 (shapeCast S1x64 (shapeCast S1x64 v h1) shapeCasts_S1x64_S1x64) broadcasts_S1x64_S256x64))
        (broadcast S256x64 (Scalar.ofBits .f32 0x00000000#32))
      = maximumf (addf (Host.dotGeneral d none x w) (broadcastInDim S256x64 ![0, 1] he (broadcastInDim S1x64 ![1] hd v)))
          (broadcastInDim S256x64 ![] hz (constant S_ .f32 0x00000000#32)) := by
  rw [matmul_zero_eq_dotGeneral, Cert.Bridge.bias64 v h1 _ _ hd he]
  rfl

/-- The input's share of the gates, from the layers before it. -/
theorem pay7_eq (u : FVec Ideal S256x128 .f32) (p : FVec Ideal S256x2 .f32) (x : FVec Ideal S4096x256 .bf16) (w1 : FVec Ideal S2x64 .f32)
    (v1 : FVec Ideal S1x64 .f32) (w2 : FVec Ideal S2048x64 .f32) (v2 : FVec Ideal S1x64 .f32) (w3 : FVec Ideal S128x512 .f32)
    (r1 r2 : FVec Ideal S256x64 .f32)
    (e1 : maximumf (addf (matmul dot_S256x2_S2x64_S256x64_1_0_0_1_n_n none p w1 (constant S256x64 .f32 0x00000000#32))
        (broadcastTo S256x64 (shapeCast S1x64 v1 shapeCasts_S1x64_S1x64) broadcasts_S1x64_S256x64))
        (broadcast S256x64 (Scalar.ofBits .f32 0x00000000#32)) = r1)
    (e2 : maximumf (addf (matmul dot_S256x2048_S2048x64_S256x64_1_0_0_1_n_n none (Cert.Bridge.stack
          (matmul dot_S4096x256_S256x128_S4096x128_1_0_0_1_n_n none (extf .f32 x bitsLt_bf16_f32) u
            (constant S4096x128 .f32 0x00000000#32))) w2 (constant S256x64 .f32 0x00000000#32))
        (broadcastTo S256x64 (shapeCast S1x64 v2 shapeCasts_S1x64_S1x64) broadcasts_S1x64_S256x64))
        (broadcast S256x64 (Scalar.ofBits .f32 0x00000000#32)) = r2) :
    k0_pay7 u p x w1 v1 w2 v2 w3 = Host.dotGeneral (φ₁ := .f32) (φ₂ := .f32) dot_S256x128_S128x512_S256x512_1_0_0_1_n_n none
      (concatenate S256x128 1 [⟨S256x64, r1⟩, ⟨S256x64, r2⟩] concatenates_S256x64_S256x64_S256x128_d1) w3 := by
  subst e1 e2
  rw [← matmul_zero_eq_dotGeneral]
  unfold k0_pay7
  rw [shapeCast_self w3]
  rfl

/-- The input's share of the gates. -/
theorem inGates_eq (a : Agrees b h c j s) : inGates b h = Cert.RefStep.b119 j s := by
  obtain ⟨h1, e1⟩ := a.bIn
  obtain ⟨h2, e2⟩ := a.bT
  obtain ⟨h3, e3⟩ := a.wIh
  unfold inGates
  rw [a.hid, a.pos, e1, e2, e3, a.wIn, a.wT]
  have soc : Cert.Bridge.stack (matmul dot_S4096x256_S256x128_S4096x128_1_0_0_1_n_n none
      (extf .f32 (k0_pay6 b.grids) bitsLt_bf16_f32) (b59 j s) (constant S4096x128 .f32 0x00000000#32))
      = Cert.RefStep.b102 j s := Cert.Bridge.social _ _ _ a.mask _
  refine (pay7_eq _ _ _ _ _ _ _ _ (Cert.RefStep.b109 j s) (Cert.RefStep.b116 j s) (layer64 _ _ _ _ _ Cert.ReferenceIdeal.Facts₀.bcast_S64_S1x64_1 Cert.ReferenceIdeal.Facts₀.bcast_S1x64_S256x64_0_1 Cert.ReferenceIdeal.Facts₀.bcast_S_S256x64) ?_).trans rfl
  rw [soc]
  exact layer64 _ _ _ _ _ Cert.ReferenceIdeal.Facts₀.bcast_S64_S1x64_1 Cert.ReferenceIdeal.Facts₀.bcast_S1x64_S256x64_0_1 Cert.ReferenceIdeal.Facts₀.bcast_S_S256x64

/-- The gates. -/
theorem gates_eq (a : Agrees b h c j s) :
    k0_pay9 (k0_pay3 b.prev h) (inGates b h) (k0_pay8 b.bIh) b.wHh b.bHh = Cert.RefStep.b128 j s := by
  obtain ⟨h1, e1⟩ := a.bIh
  obtain ⟨h2, e2⟩ := a.wHh
  obtain ⟨h3, e3⟩ := a.bHh
  rw [a.hid, inGates_eq a, e1, e2, e3]
  unfold k0_pay9 k0_pay8
  rw [shapeCast_self (transpose S128x512 [1, 0] _ h2)]
  refine Eq.trans (congrArg₂ addf (congrArg₂ addf (congrArg₂ addf rfl (Cert.Bridge.bias512 _ _ _ _ Cert.ReferenceIdeal.Facts₀.bcast_S512_S1x512_1 Cert.ReferenceIdeal.Facts₀.bcast_S1x512_S256x512_0_1))
    (matmul_zero_eq_dotGeneral _ _ _ _)) (Cert.Bridge.bias512 _ _ _ _ Cert.ReferenceIdeal.Facts₀.bcast_S512_S1x512_1 Cert.ReferenceIdeal.Facts₀.bcast_S1x512_S256x512_0_1)) ?_
  rfl

/-- The new cell rows. -/
theorem newC_eq (a : Agrees b h c j s) : newC b h c = b160 j s := by
  unfold newC k0_pay10
  rw [gates_eq a, a.cell]
  refine (congrArg₂ addf (congrArg₂ mulf (Cert.Bridge.logistic_eq _ Cert.ReferenceIdeal.Facts₀.bcast_S_S256x128) rfl) (congrArg₂ mulf (Cert.Bridge.logistic_eq _ Cert.ReferenceIdeal.Facts₀.bcast_S_S256x128) rfl)).trans ?_
  rfl

/-- The new hidden rows. -/
theorem newH_eq (a : Agrees b h c j s) : newH b h c = b162 j s := by
  have e := newC_eq a
  unfold newC at e
  unfold newH k0_pay11
  rw [e, gates_eq a]
  refine (congrArg₂ mulf (Cert.Bridge.logistic_eq _ Cert.ReferenceIdeal.Facts₀.bcast_S_S256x128) rfl).trans ?_
  rfl

/-- The rows of a frame's outputs, before they go back to node order. -/
theorem outT_eq (a : Agrees b h c j s) : outRows b h c = shapeCast S1x256x5 (matmul (φ₁ := .f32) (φ₂ := .f32) dot_S256x256_S256x5_S256x5_1_0_0_1_n_n
    (some .fp32) (k0_pay2 b.idRow) (b167 j s) (constant S256x5 .f32 0x00000000#32)) shapeCasts_S256x5_S1x256x5 := by
  have e := newH_eq a
  obtain ⟨h1, e1⟩ := a.wOut
  obtain ⟨h2, e2⟩ := a.bOut
  unfold newH at e
  unfold outRows k0_pay12
  rw [e, e1, e2, shapeCast_self (transpose S128x5 [1, 0] _ h1)]
  refine congrArg (fun z : FVec Ideal S256x5 .f32 => shapeCast S1x256x5 (matmul dot_S256x256_S256x5_S256x5_1_0_0_1_n_n
    (some .fp32) (k0_pay2 b.idRow) z (constant S256x5 .f32 0x00000000#32)) shapeCasts_S256x5_S1x256x5) ?_
  refine (congrArg₂ addf (matmul_zero_eq_dotGeneral _ _ _ _) (Cert.Bridge.bias5 _ _ _ _ Cert.ReferenceIdeal.Facts₀.bcast_S5_S1x5_1 Cert.ReferenceIdeal.Facts₀.bcast_S1x5_S256x5_0_1)).trans ?_
  rfl

/-- The new hidden rows, back in node order. -/
theorem lastH_eq (a : Agrees b h c j s) : lastH b h c = matmul (φ₁ := .f32) (φ₂ := .f32) dot_S256x256_S256x128_S256x128_1_0_0_1_n_n
    (some .fp32) (k0_pay2 b.idRow) (b162 j s) (constant S256x128 .f32 0x00000000#32) := by
  rw [← newH_eq a]
  rfl

/-- The new cell rows, back in node order. -/
theorem lastC_eq (a : Agrees b h c j s) : lastC b h c = matmul (φ₁ := .f32) (φ₂ := .f32) dot_S256x256_S256x128_S256x128_1_0_0_1_n_n
    (some .fp32) (k0_pay2 b.idRow) (b160 j s) (constant S256x128 .f32 0x00000000#32) := by
  rw [← newC_eq a]
  rfl

end Cert.Cell
-- ==== Proof.Rows.lean ====
/- Taking and setting rows by node id. The reference takes row `k` of an array by a gather and sets it by a scatter; the kernel
   takes rows by a product with a matrix of zeros and ones, one 1 in each row. -/
module

public import proofs.«01_k».proof.Proof.Cell
public import Idealize.ShloMosaic.Lib.Routing.OpsSet
public import Idealize.ShloMosaic.Lib.Routing.OpsPair

@[expose] public section

set_option maxRecDepth 16384

noncomputable section

namespace Cert.Rows

open Idealize.ShloMosaic Idealize.ShloMosaic.TcCoe Idealize.SL.Sem

section Reference
open Cert.ReferenceIdeal

variable {α : Type}

/-- Row `n` of a gather of rows of 128 is the row that word `n` names. -/
theorem gather128 (x : S256x128.Idx → α) (idx : IVec S256x1 32) (n k : Fin 256) (r : Fin 128)
    (h : (idx (ix2 n (0 : Fin 1) : S256x1.Idx)).toInt = k.val) :
    Host.gather gather_S256x128_S256x1_S256x128_1_0_n_n_0_1_1128 x idx (ix2 n r : S256x128.Idx) = x (ix2 k r : S256x128.Idx) := by
  have hi : ∀ c, (gather_S256x128_S256x1_S256x128_1_0_n_n_0_1_1128).siIdx (ix2 n r : S256x128.Idx) c = (ix2 n (0 : Fin 1) : S256x1.Idx) := by
    intro c
    funext b
    match b with
    | ⟨0, _⟩ => rfl
    | ⟨1, _⟩ => exact Fin.ext (Nat.lt_one_iff.1 c.isLt)
  refine congrArg x (funext fun a => Fin.ext ?_)
  match a with
  | ⟨0, _⟩ =>
    show min (idx _).toInt.toNat (256 - 1) + 0 + 0 = k.val
    rw [hi, h]
    have := k.isLt
    omega
  | ⟨1, _⟩ => show 0 + 0 + r.val = r.val; omega

/-- Row `n` of a gather of positions is the row that word `n` names. -/
theorem gather2 (x : S256x2.Idx → α) (idx : IVec S256x1 32) (n k : Fin 256) (r : Fin 2)
    (h : (idx (ix2 n (0 : Fin 1) : S256x1.Idx)).toInt = k.val) :
    Host.gather gather_S256x2_S256x1_S256x2_1_0_n_n_0_1_12 x idx (ix2 n r : S256x2.Idx) = x (ix2 k r : S256x2.Idx) := by
  have hi : ∀ c, (gather_S256x2_S256x1_S256x2_1_0_n_n_0_1_12).siIdx (ix2 n r : S256x2.Idx) c = (ix2 n (0 : Fin 1) : S256x1.Idx) := by
    intro c
    funext b
    match b with
    | ⟨0, _⟩ => rfl
    | ⟨1, _⟩ => exact Fin.ext (Nat.lt_one_iff.1 c.isLt)
  refine congrArg x (funext fun a => Fin.ext ?_)
  match a with
  | ⟨0, _⟩ =>
    show min (idx _).toInt.toNat (256 - 1) + 0 + 0 = k.val
    rw [hi, h]
    have := k.isLt
    omega
  | ⟨1, _⟩ => show 0 + 0 + r.val = r.val; omega

/-- Update `(n, r)` of a scatter of rows of 128 lands at `(k, q)` exactly when word `n` is `k` and `r = q`. -/
theorem lands128 (idx : IVec S256x1 32) (n k : Fin 256) (r q : Fin 128) :
    scatter_S256x128_S256x1_S256x128_1_0_0_1.resultIdx? (ix2 n r : S256x128.Idx) idx = some (ix2 k q : S256x128.Idx)
      ↔ (idx (ix2 n (0 : Fin 1) : S256x1.Idx)).toInt = k.val ∧ r = q := by
  have hi : ∀ c, scatter_S256x128_S256x1_S256x128_1_0_0_1.siIdx (ix2 n r : S256x128.Idx) c = (ix2 n (0 : Fin 1) : S256x1.Idx) := by
    intro c
    funext b
    match b with
    | ⟨0, _⟩ => rfl
    | ⟨1, _⟩ => exact Fin.ext (Nat.lt_one_iff.1 c.isLt)
  have h0 : ∀ z : ℤ, (scatter_S256x128_S256x1_S256x128_1_0_0_1.start (ix2 n r : S256x128.Idx) idx 0
      + (scatter_S256x128_S256x1_S256x128_1_0_0_1.window (ix2 n r : S256x128.Idx) 0 : ℤ) = z)
      ↔ (idx (ix2 n (0 : Fin 1) : S256x1.Idx)).toInt = z := by
    intro z
    rw [← hi ⟨0, by decide⟩, show scatter_S256x128_S256x1_S256x128_1_0_0_1.window (ix2 n r : S256x128.Idx) 0 = 0 from rfl]
    show (idx _).toInt + ((0 : ℕ) : ℤ) = z ↔ _
    rw [Nat.cast_zero, add_zero]
    exact Iff.rfl
  rw [Routing.resultIdx?_eq_some]
  constructor
  · intro h
    refine ⟨(h0 _).1 (h ⟨0, by decide⟩), Fin.ext ?_⟩
    have : (0 : ℤ) + (r.val : ℤ) = (q.val : ℤ) := h ⟨1, by decide⟩
    omega
  · rintro ⟨h, rfl⟩ a
    match a with
    | ⟨0, _⟩ => exact (h0 _).2 h
    | ⟨1, _⟩ => show (0 : ℤ) + (r.val : ℤ) = (r.val : ℤ); omega

/-- Update `(n, e)` of the scatter of a frame's outputs lands at `(k, q)` exactly when word `n` is `k` and `e = q`. -/
theorem lands5 (idx : IVec S256x1 32) (n : Fin 256) (k : Fin 5120) (r q : Fin 5) :
    scatter_S5120x5_S256x1_S256x5_1_0_0_1.resultIdx? (ix2 n r : S256x5.Idx) idx = some (ix2 k q : S5120x5.Idx)
      ↔ (idx (ix2 n (0 : Fin 1) : S256x1.Idx)).toInt = k.val ∧ r = q := by
  have hi : ∀ c, scatter_S5120x5_S256x1_S256x5_1_0_0_1.siIdx (ix2 n r : S256x5.Idx) c = (ix2 n (0 : Fin 1) : S256x1.Idx) := by
    intro c
    funext b
    match b with
    | ⟨0, _⟩ => rfl
    | ⟨1, _⟩ => exact Fin.ext (Nat.lt_one_iff.1 c.isLt)
  have h0 : ∀ z : ℤ, (scatter_S5120x5_S256x1_S256x5_1_0_0_1.start (ix2 n r : S256x5.Idx) idx 0
      + (scatter_S5120x5_S256x1_S256x5_1_0_0_1.window (ix2 n r : S256x5.Idx) 0 : ℤ) = z)
      ↔ (idx (ix2 n (0 : Fin 1) : S256x1.Idx)).toInt = z := by
    intro z
    rw [← hi ⟨0, by decide⟩, show scatter_S5120x5_S256x1_S256x5_1_0_0_1.window (ix2 n r : S256x5.Idx) 0 = 0 from rfl]
    show (idx _).toInt + ((0 : ℕ) : ℤ) = z ↔ _
    rw [Nat.cast_zero, add_zero]
    exact Iff.rfl
  rw [Routing.resultIdx?_eq_some]
  constructor
  · intro h
    refine ⟨(h0 _).1 (h ⟨0, by decide⟩), Fin.ext ?_⟩
    have : (0 : ℤ) + (r.val : ℤ) = (q.val : ℤ) := h ⟨1, by decide⟩
    omega
  · rintro ⟨h, rfl⟩ a
    match a with
    | ⟨0, _⟩ => exact (h0 _).2 h
    | ⟨1, _⟩ => show (0 : ℤ) + (r.val : ℤ) = (r.val : ℤ); omega

/-- A scatter of rows of 128 whose words name different nodes: the row that word `n` names is update row `n`. -/
theorem scatter128 (x : S256x128.Idx → α) (idx : IVec S256x1 32) (upd : S256x128.Idx → α) (nd : Fin 256 → Fin 256)
    (hinj : Function.Injective nd) (h : ∀ n, (idx (ix2 n (0 : Fin 1) : S256x1.Idx)).toInt = (nd n).val) (n : Fin 256) (r : Fin 128) :
    Host.scatter scatter_S256x128_S256x1_S256x128_1_0_0_1 (fun _ b => b) x idx upd (ix2 (nd n) r : S256x128.Idx)
      = upd (ix2 n r : S256x128.Idx) := by
  refine Routing.scatter_set_hit _ _ _ _ _ _ (fun k hk => ?_) (ix2 n r : S256x128.Idx) ((lands128 _ _ _ _ _).2 ⟨h n, rfl⟩)
  obtain ⟨n', r', rfl⟩ : ∃ (n' : Fin 256) (r' : Fin 128), k = (ix2 n' r' : S256x128.Idx) := ⟨_, _, eq_ix2 k⟩
  obtain ⟨e, rfl⟩ := (lands128 _ _ _ _ _).1 hk
  rw [h n'] at e
  rw [hinj (Fin.ext (by exact_mod_cast e) : nd n' = nd n)]

/-- A scatter of a frame's outputs whose words name different rows: the row that word `n` names is update row `n`. -/
theorem scatter5 (x : S5120x5.Idx → α) (idx : IVec S256x1 32) (upd : S256x5.Idx → α) (nd : Fin 256 → Fin 5120)
    (hinj : Function.Injective nd) (h : ∀ n, (idx (ix2 n (0 : Fin 1) : S256x1.Idx)).toInt = (nd n).val) (n : Fin 256) (r : Fin 5) :
    Host.scatter scatter_S5120x5_S256x1_S256x5_1_0_0_1 (fun _ b => b) x idx upd (ix2 (nd n) r : S5120x5.Idx)
      = upd (ix2 n r : S256x5.Idx) := by
  refine Routing.scatter_set_hit _ _ _ _ _ _ (fun k hk => ?_) (ix2 n r : S256x5.Idx) ((lands5 _ _ _ _ _).2 ⟨h n, rfl⟩)
  obtain ⟨n', r', rfl⟩ : ∃ (n' : Fin 256) (r' : Fin 5), k = (ix2 n' r' : S256x5.Idx) := ⟨_, _, eq_ix2 k⟩
  obtain ⟨e, rfl⟩ := (lands5 _ _ _ _ _).1 hk
  rw [h n'] at e
  rw [hinj (Fin.ext (by exact_mod_cast e) : nd n' = nd n)]

/-- A row that no word names keeps its outputs. -/
theorem scatter5_miss (x : S5120x5.Idx → α) (idx : IVec S256x1 32) (upd : S256x5.Idx → α) (nd : Fin 256 → Fin 5120)
    (h : ∀ n, (idx (ix2 n (0 : Fin 1) : S256x1.Idx)).toInt = (nd n).val) (k : Fin 5120) (hk : ∀ n, nd n ≠ k) (r : Fin 5) :
    Host.scatter scatter_S5120x5_S256x1_S256x5_1_0_0_1 (fun _ b => b) x idx upd (ix2 k r : S5120x5.Idx) = x (ix2 k r : S5120x5.Idx) := by
  refine Routing.scatter_set_miss _ _ _ _ _ (fun q hq => ?_)
  obtain ⟨n', r', rfl⟩ : ∃ (n' : Fin 256) (r' : Fin 5), q = (ix2 n' r' : S256x5.Idx) := ⟨_, _, eq_ix2 q⟩
  obtain ⟨e, _⟩ := (lands5 _ _ _ _ _).1 hq
  rw [h n'] at e
  exact hk n' (Fin.ext (by exact_mod_cast e))

end Reference

section Kernel
open Cert.KernelIdeal Cert.KernelIdeal.Gen

/-- The comparison of two nodes' words, as a number. -/
theorem hot (a b : Fin 256) : FloatOps.sitofp (F := Ideal) (w := 32) .f32 ((IntOp.cmpi .eq (BitVec.ofNat 32 a.val) (BitVec.ofNat 32 b.val)).setWidth 32)
    = if a = b then (1 : EReal) else 0 := by
  by_cases e : a = b
  · subst e
    rw [if_pos rfl, show IntOp.cmpi .eq (BitVec.ofNat 32 a.val) (BitVec.ofNat 32 a.val) = 1#1 by
      show BitVec.ofBool (_ == _) = 1#1
      rw [beq_self_eq_true]
      rfl]
    show (((BitVec.setWidth 32 1#1).toInt : ℝ) : EReal) = 1
    rw [show (BitVec.setWidth 32 1#1).toInt = 1 by decide]
    norm_num
  · rw [if_neg e, show IntOp.cmpi .eq (BitVec.ofNat 32 a.val) (BitVec.ofNat 32 b.val) = 0#1 by
      have hn : BitVec.ofNat 32 a.val ≠ BitVec.ofNat 32 b.val := fun h => e (Fin.ext (by
        have := congrArg BitVec.toNat h
        simp only [BitVec.toNat_ofNat] at this
        omega))
      show BitVec.ofBool (_ == _) = 0#1
      rw [beq_false_of_ne hn]
      rfl]
    show (((BitVec.setWidth 32 0#1).toInt : ℝ) : EReal) = 0
    rw [show (BitVec.setWidth 32 0#1).toInt = 0 by decide]
    norm_num

/-- A sum with one node's factor 1 and every other's 0 is the value at that node. -/
theorem sum_hot (k : Fin 256) (f : Fin 256 → EReal) : ∑ q : Fin 256, (if k = q then (1 : EReal) else 0) * f q = f k := by
  simp only [ite_mul, one_mul, zero_mul, Finset.sum_ite_eq, Finset.mem_univ, if_true]

/-- The same where the factor compares with the node at each position. -/
theorem sum_hot_pos {nd pos : Fin 256 → Fin 256} (h1 : ∀ n, pos (nd n) = n) (h2 : ∀ k, nd (pos k) = k) (k : Fin 256)
    (f : Fin 256 → EReal) : ∑ n : Fin 256, (if k = nd n then (1 : EReal) else 0) * f n = f (pos k) := by
  rw [← sum_hot (pos k) f]
  refine Finset.sum_congr rfl fun n _ => congrArg (· * f n) (if_congr ⟨fun e => ?_, fun e => ?_⟩ rfl rfl)
  · rw [e, h1]
  · rw [← e, h2]

/-- Rows of hidden values taken by the product: row `n` is the row that word `n` names. -/
theorem pay3_apply (v : Vec Ideal S1x256x1 .i32) (h : Vec Ideal S256x128 .f32) (n k : Fin 256) (r : Fin 128)
    (hv : v (ix3 (0 : Fin 1) n (0 : Fin 1) : S1x256x1.Idx) = BitVec.ofNat 32 k.val) :
    k0_pay3 v h (ix2 n r : S256x128.Idx) = h (ix2 k r : S256x128.Idx) := by
  unfold k0_pay3 k0_pay1
  pointwise
  rw [hv]
  simp only [hot]
  exact sum_hot k fun q => h (ix2 q r : S256x128.Idx)

/-- The same of cell values. -/
theorem pay4_apply (v : Vec Ideal S1x256x1 .i32) (h : Vec Ideal S256x128 .f32) (n k : Fin 256) (r : Fin 128)
    (hv : v (ix3 (0 : Fin 1) n (0 : Fin 1) : S1x256x1.Idx) = BitVec.ofNat 32 k.val) :
    k0_pay4 v h (ix2 n r : S256x128.Idx) = h (ix2 k r : S256x128.Idx) := by
  unfold k0_pay4 k0_pay1
  pointwise
  rw [hv]
  simp only [hot]
  exact sum_hot k fun q => h (ix2 q r : S256x128.Idx)

/-- The same of positions. -/
theorem pay5_apply (v : Vec Ideal S1x256x1 .i32) (h : Vec Ideal S1x256x2 .f32) (n k : Fin 256) (r : Fin 2)
    (hv : v (ix3 (0 : Fin 1) n (0 : Fin 1) : S1x256x1.Idx) = BitVec.ofNat 32 k.val) :
    k0_pay5 v h (ix2 n r : S256x2.Idx) = h (ix3 (0 : Fin 1) k r : S1x256x2.Idx) := by
  unfold k0_pay5
  pointwise
  rw [hv]
  simp only [hot]
  exact sum_hot k fun q => h (ix3 (0 : Fin 1) q r : S1x256x2.Idx)

/-- Rows put back in node order by the product: row `k` is the row at the position of node `k`. -/
theorem back128 {nd pos : Fin 256 → Fin 256} (h1 : ∀ n, pos (nd n) = n) (h2 : ∀ k, nd (pos k) = k) (v : Vec Ideal S1x1x256 .i32)
    (hv : ∀ n, v (ix3 (0 : Fin 1) (0 : Fin 1) n : S1x1x256.Idx) = BitVec.ofNat 32 (nd n).val) (x : FVec Ideal S256x128 .f32)
    (k : Fin 256) (r : Fin 128) :
    matmul (φ₁ := .f32) (φ₂ := .f32) dot_S256x256_S256x128_S256x128_1_0_0_1_n_n (some .fp32) (k0_pay2 v) x
      (constant S256x128 .f32 0x00000000#32) (ix2 k r : S256x128.Idx) = x (ix2 (pos k) r : S256x128.Idx) := by
  unfold k0_pay2
  pointwise
  simp only [hv, hot]
  exact sum_hot_pos h1 h2 k fun n => x (ix2 n r : S256x128.Idx)

/-- The same of a frame's outputs. -/
theorem back5 {nd pos : Fin 256 → Fin 256} (h1 : ∀ n, pos (nd n) = n) (h2 : ∀ k, nd (pos k) = k) (v : Vec Ideal S1x1x256 .i32)
    (hv : ∀ n, v (ix3 (0 : Fin 1) (0 : Fin 1) n : S1x1x256.Idx) = BitVec.ofNat 32 (nd n).val) (x : FVec Ideal S256x5 .f32)
    (k : Fin 256) (e : Fin 5) :
    matmul (φ₁ := .f32) (φ₂ := .f32) dot_S256x256_S256x5_S256x5_1_0_0_1_n_n (some .fp32) (k0_pay2 v) x
      (constant S256x5 .f32 0x00000000#32) (ix2 k e : S256x5.Idx) = x (ix2 (pos k) e : S256x5.Idx) := by
  unfold k0_pay2
  pointwise
  simp only [hv, hot]
  exact sum_hot_pos h1 h2 k fun n => x (ix2 n e : S256x5.Idx)

end Kernel

end Cert.Rows
-- ==== Proof.Perm.lean ====
/- What the precondition says of the node ids. Every row of them, sorted, is 0, 1, …, 255: so a row names every node once. `nd t n`
   is the node at position `n` of row `t` and `pos t k` the position of node `k`, which the kernel computes by sorting.
   The kernel's table `prevRows` then has, for each frame, the row where the rows carried from the frame before keep
   each node. -/
module

public import proofs.«01_k».proof.Proof.HostArrays
public import proofs.«01_k».proof.Pre_rows_permute
public import Idealize.ShloMosaic.Lib.SortFacts
public import Idealize.ShloMosaic.Lib.ReduceAll
public import Idealize.ShloMosaic.Lib.DynamicIndex
public import Idealize.ShloMosaic.Lib.Pointwise

@[expose] public section

set_option maxRecDepth 16384

noncomputable section

namespace Cert.Perm

open Idealize.ShloMosaic Idealize.ShloMosaic.TcCoe Idealize.SL.Sem
open Cert.KernelIdeal Cert.KernelIdeal.Gen Cert.HostArrays

/-- Row `t` of the ids names node `nd t n` at position `n`; `pos t` is the inverse, which sorting computes. -/
structure IsPerm (ids : IVec S20x256 32) (nd pos : Fin 20 → Fin 256 → Fin 256) : Prop where
  pos_nd : ∀ t n, pos t (nd t n) = n
  nd_pos : ∀ t k, nd t (pos t k) = k
  ids_eq : ∀ t n, ids (ix2 t n : S20x256.Idx) = BitVec.ofNat 32 (nd t n).val
  inv_eq : ∀ t k, inverse ids (ix2 t k : S20x256.Idx) = BitVec.ofNat 32 (pos t k).val

/-- The rows are sorted along an axis that is there. -/
theorem rank_one : 1 < S20x256.rank := by decide

/-- A row index with its second coordinate replaced. -/
theorem along_ix2 (t : Fin 20) (k k' : Fin 256) :
    Shape.Idx.along (ix2 t k : S20x256.Idx) (⟨1, rank_one⟩ : Fin S20x256.rank) k' = (ix2 t k' : S20x256.Idx) := by
  funext b
  match b with
  | ⟨0, _⟩ => rfl
  | ⟨1, _⟩ => rfl

/-- The order of the positions of row `t`. -/
def before (ids : IVec S20x256 32) (t : Fin 20) (k k' : Fin 256) : Bool :=
  IntOp.cmpi .slt (ids (ix2 t k : S20x256.Idx)) (ids (ix2 t k' : S20x256.Idx)) == 1#1

/-- The order as a sort along the axis states it. -/
theorem before_along (ids : IVec S20x256 32) (t : Fin 20) (k : Fin 256) :
    (fun q q' : Fin (S20x256.size (⟨1, rank_one⟩ : Fin S20x256.rank)) =>
      IntOp.cmpi .slt (ids (Shape.Idx.along (ix2 t k : S20x256.Idx) (⟨1, rank_one⟩ : Fin S20x256.rank) q))
        (ids (Shape.Idx.along (ix2 t k : S20x256.Idx) (⟨1, rank_one⟩ : Fin S20x256.rank) q')) == 1#1) = before ids t :=
  funext fun q => funext fun q' =>
    congrArg₂ (fun a b : S20x256.Idx => IntOp.cmpi .slt (ids a) (ids b) == 1#1) (along_ix2 t k q) (along_ix2 t k q')

/-- The positions of a row that sort it. -/
theorem inverse_apply (ids : IVec S20x256 32) (t : Fin 20) (k : Fin 256) :
    inverse ids (ix2 t k : S20x256.Idx) = BitVec.ofNat 32 (sortedFrom (before ids t) k).val := by
  unfold inverse Host.sort2
  rw [dif_pos rank_one]
  dsimp only [comparator_i32_i32_d1]
  rw [before_along]
  exact (congrArg (iotaInDim S20x256 32 1) (along_ix2 t k _)).trans rfl

/-- A sorted row. -/
theorem sort_apply (ids : IVec S20x256 32) (t : Fin 20) (k : Fin 256) :
    Host.sort S20x256 1 Cert.Pre_rows_permute.comparator_i32_d1 ids (ix2 t k : S20x256.Idx)
      = ids (ix2 t (sortedFrom (before ids t) k) : S20x256.Idx) := by
  unfold Host.sort
  rw [dif_pos rank_one]
  dsimp only [Cert.Pre_rows_permute.comparator_i32_d1]
  rw [before_along]
  exact congrArg ids (along_ix2 t k _)

/-- Two words that a comparison for equality finds equal are equal. -/
theorem eq_of_cmpi (a b : BitVec 32) (h : IntOp.cmpi .eq a b = 1#1) : a = b := by
  by_contra hn
  have : IntOp.cmpi .eq a b = 0#1 := by
    show BitVec.ofBool (a == b) = 0#1
    rw [beq_false_of_ne hn]
    rfl
  rw [this] at h
  exact absurd h (by decide)

/-- The precondition makes every row of the node ids a permutation of the nodes. -/
theorem exists_perm [Cert.Pre_rows_permute.Facts] (a0 : FVec Ideal S20x256x2 .f32) (a1 a2 : FVec Ideal S256x128 .f32) (a3 : FVec Ideal S5120x5 .f32)
    (a4 : FVec Ideal S20x256x256x16 .f32) (ids : IVec S20x256 32) (a6 : FVec Ideal S2x64 .f32) (a7 : FVec Ideal S64 .f32)
    (a8 : FVec Ideal S2048x64 .f32) (a9 : FVec Ideal S64 .f32) (a10 : FVec Ideal S512x128 .f32) (a11 : FVec Ideal S512 .f32)
    (a12 : FVec Ideal S512x128 .f32) (a13 : FVec Ideal S512 .f32) (a14 : FVec Ideal S5x128 .f32) (a15 : FVec Ideal S5 .f32)
    (h : Cert.Pre_rows_permute.fn (F := Ideal) a0 a1 a2 a3 a4 ids a6 a7 a8 a9 a10 a11 a12 a13 a14 a15 = fun _ => 1#1) :
    ∃ nd pos, IsPerm ids nd pos := by
  have hs : ∀ (t : Fin 20) (k : Fin 256), ids (ix2 t (sortedFrom (before ids t) k) : S20x256.Idx) = BitVec.ofNat 32 k.val := by
    intro t k
    haveI : Subsingleton Cert.Pre_rows_permute.S_.Idx := ⟨fun a b => funext fun q => q.elim0⟩
    have e := Host.reduce_andi_all _ _ _ _ _ (congrFun h (fun q => q.elim0)) (ix2 t k : S20x256.Idx)
    refine (sort_apply ids t k).symm.trans ?_
    refine (eq_of_cmpi _ _ e).trans ?_
    pointwise
  choose nd hn using fun t : Fin 20 => sortedFrom_surjective (before ids t)
  refine ⟨nd, fun t k => sortedFrom (before ids t) k, fun t n => hn t n,
    fun t k => sortedFrom_injective (before ids t) (hn t _), fun t n => ?_, fun t k => inverse_apply ids t k⟩
  exact (congrArg (fun q => ids (ix2 t q : S20x256.Idx)) (hn t n)).symm.trans (hs t (nd t n))

variable {ids : IVec S20x256 32} {nd pos : Fin 20 → Fin 256 → Fin 256}

/-- At the first frame the carried rows are in node order. -/
theorem prevRows_zero (h : IsPerm ids nd pos) (n : Fin 256) :
    prevRows ids (ix2 (0 : Fin 20) n : S20x256.Idx) = BitVec.ofNat 32 (nd 0 n).val := by
  rw [← h.ids_eq]
  unfold prevRows
  pointwise

/-- A gather along a row, the index in range. -/
theorem gather_row (x : IVec S19x256 32) (idx : IVec S19x256x1 32) (t : Fin 19) (n k : Fin 256)
    (h : (idx (ix3 t n (0 : Fin 1) : S19x256x1.Idx)).toInt = k.val) :
    Host.gather gather_S19x256_S19x256x1_S19x256_n_1_0_0_1_2_11 x idx (ix2 t n : S19x256.Idx) = x (ix2 t k : S19x256.Idx) := by
  have hi : ∀ c, (gather_S19x256_S19x256x1_S19x256_n_1_0_0_1_2_11).siIdx (ix2 t n : S19x256.Idx) c = (ix3 t n (0 : Fin 1) : S19x256x1.Idx) := by
    intro c
    funext b
    match b with
    | ⟨0, _⟩ => rfl
    | ⟨1, _⟩ => rfl
    | ⟨2, _⟩ => exact Fin.ext (Nat.lt_one_iff.1 c.isLt)
  refine congrArg x (funext fun a => Fin.ext ?_)
  match a with
  | ⟨0, _⟩ => show 0 + t.val + 0 = t.val; omega
  | ⟨1, _⟩ =>
    show min (idx _).toInt.toNat (256 - 1) + 0 + 0 = k.val
    rw [hi, h]
    have := k.isLt
    omega

/-- Words that hold a number below 256 are not negative, and are at most 255. -/
theorem word_cmp (q : Fin 256) : IntOp.cmpi .slt (BitVec.ofNat 32 q.val) 0#32 = 0#1 ∧ IntOp.cmpi .sge (BitVec.ofNat 32 q.val) 0#32 = 1#1
    ∧ IntOp.cmpi .sle (BitVec.ofNat 32 q.val) 255#32 = 1#1 := by
  revert q
  decide +kernel

/-- The id that the gather reads. -/
theorem idsNext_apply (h : IsPerm ids nd pos) (t : Fin 19) (n : Fin 256) (z : Fin 1) :
    idsNext ids (ix3 t n z : S19x256x1.Idx) = BitVec.ofNat 32 (nd t.succ n).val := by
  have e : idsNext ids (ix3 t n z : S19x256x1.Idx)
      = Scalar.select (IntOp.cmpi .slt (ids (ix2 t.succ n : S20x256.Idx)) 0#32)
          (IntOp.addi (ids (ix2 t.succ n : S20x256.Idx)) 256#32) (ids (ix2 t.succ n : S20x256.Idx)) := by
    unfold idsNext
    pointwise
    have es : (⟨1 + t.val, by omega⟩ : Fin 20) = t.succ := Fin.ext (Nat.add_comm 1 t.val)
    rw [es]
  rw [e, h.ids_eq, (word_cmp _).1]
  rfl

/-- Every id is in range. -/
theorem inRange_apply (h : IsPerm ids nd pos) (j : S19x256.Idx) : inRange ids j = 1#1 := by
  unfold inRange
  refine Host.reduce_andi_one _ _ _ _ _ rfl fun i => ?_
  obtain ⟨t, n, z, rfl⟩ : ∃ (t : Fin 19) (n : Fin 256) (z : Fin 1), i = (ix3 t n z : S19x256x1.Idx) := ⟨_, _, _, eq_ix3 i⟩
  show IntOp.andi (IntOp.cmpi .sge (idsNext ids (ix3 t n z : S19x256x1.Idx)) 0#32)
    (IntOp.cmpi .sle (idsNext ids (ix3 t n z : S19x256x1.Idx)) 255#32) = 1#1
  rw [idsNext_apply h, (word_cmp _).2.1, (word_cmp _).2.2]
  rfl

/-- At a later frame they are in the order of the frame before. -/
theorem prevRows_succ (h : IsPerm ids nd pos) (t : Fin 19) (n : Fin 256) :
    prevRows ids (ix2 t.succ n : S20x256.Idx) = BitVec.ofNat 32 (pos t.castSucc (nd t.succ n)).val := by
  rw [← h.inv_eq]
  have e : prevRows ids (ix2 t.succ n : S20x256.Idx) = prevTail ids (ix2 t n : S19x256.Idx) := by
    unfold prevRows
    pointwise
    rw [dif_neg (by rw [Fin.val_succ]; omega)]
    rfl
  rw [e]
  unfold prevTail
  show Scalar.select (inRange ids (ix2 t n : S19x256.Idx)) (Host.gather gather_S19x256_S19x256x1_S19x256_n_1_0_0_1_2_11
    (invHead ids) (idsNext ids) (ix2 t n : S19x256.Idx)) _ = _
  rw [inRange_apply h, gather_row _ _ t n (nd t.succ n) (by
    rw [idsNext_apply h, toInt_ofNat_of_lt (by have := (nd t.succ n).isLt; omega)])]
  show invHead ids (ix2 t (nd t.succ n) : S19x256.Idx) = _
  unfold invHead
  pointwise
  rfl

end Cert.Perm
-- ==== Proof.RefRows.lean ====
/- One trip of the reference, row by row, where row `j` of the node ids names every node once: what it takes of each array, and
   what it sets. -/
module

public import proofs.«01_k».proof.Proof.Rows
public import proofs.«01_k».proof.Proof.Perm

@[expose] public section

set_option maxRecDepth 16384

noncomputable section

namespace Cert.RefRows

open Idealize.ShloMosaic Idealize.ShloMosaic.TcCoe Idealize.SL.Sem
open Cert.ReferenceIdeal Cert.RefStep Cert.Perm

variable {s : State Ideal} {nd pos : Fin 20 → Fin 256 → Fin 256} (h : IsPerm s.main_v0_0 nd pos) (j : Fin 20)

/-- Row `j` of the ids. -/
theorem b17_apply (s : State Ideal) (j : Fin 20) (n : Fin 256) : b17 j.val s (ix1 n : S256.Idx) = s.main_v0_0 (ix2 j n : S20x256.Idx) := by
  have hs : S20x256.Slices ![j.val, 0] S1x256 := by revert j; decide
  have e : b16 j.val s = extractStridedSlice S1x256 ![j.val, 0] s.main_v0_0 hs := by
    refine Host.dynamicSlice_eq_extractStridedSlice _ _ _ _ _ hs fun a => ?_
    match a with
    | ⟨0, _⟩ => exact toInt_wrap_ofNat j.val (by omega)
    | ⟨1, _⟩ => rfl
  unfold b17
  rw [e]
  pointwise

/-- Frame `j`'s positions. -/
theorem b41_apply (s : State Ideal) (j : Fin 20) (n : Fin 256) (r : Fin 2) :
    b41 j.val s (ix2 n r : S256x2.Idx) = s.main_v0_1 (ix3 j n r : S20x256x2.Idx) := by
  have hs : S20x256x2.Slices ![j.val, 0, 0] S1x256x2 := by revert j; decide
  have e : b40 j.val s = extractStridedSlice S1x256x2 ![j.val, 0, 0] s.main_v0_1 hs := by
    refine Host.dynamicSlice_eq_extractStridedSlice _ _ _ _ _ hs fun a => ?_
    match a with
    | ⟨0, _⟩ => exact toInt_wrap_ofNat j.val (by omega)
    | ⟨1, _⟩ => rfl
    | ⟨2, _⟩ => rfl
  unfold b41
  rw [e]
  pointwise

/-- Frame `j`'s masks. -/
theorem b100_apply (s : State Ideal) (j : Fin 20) (n k : Fin 256) (q : Fin 16) :
    b100 j.val s (ix3 n k q : S256x256x16.Idx) = s.main_v0_2 (ix4 j n k q : S20x256x256x16.Idx) := by
  have hs : S20x256x256x16.Slices ![j.val, 0, 0, 0] S1x256x256x16 := by revert j; decide
  have e : b99 j.val s = extractStridedSlice S1x256x256x16 ![j.val, 0, 0, 0] s.main_v0_2 hs := by
    refine Host.dynamicSlice_eq_extractStridedSlice _ _ _ _ _ hs fun a => ?_
    match a with
    | ⟨0, _⟩ => exact toInt_wrap_ofNat j.val (by omega)
    | ⟨1, _⟩ => rfl
    | ⟨2, _⟩ => rfl
    | ⟨3, _⟩ => rfl
  unfold b100
  rw [e]
  pointwise

include h

/-- The word that a wrapped id is: the id itself, which is not negative. -/
theorem wrap_apply (n : Fin 256) (a : BitVec 32) :
    (Scalar.select (IntOp.cmpi .slt (b17 j.val s (ix1 n : S256.Idx)) 0#32) a (b17 j.val s (ix1 n : S256.Idx))).toInt = (nd j n).val := by
  rw [b17_apply, h.ids_eq, (word_cmp _).1]
  exact toInt_ofNat_of_lt (by have := (nd j n).isLt; omega)

theorem b49_apply (n : Fin 256) : (b49 j.val s (ix2 n (0 : Fin 1) : S256x1.Idx)).toInt = (nd j n).val := by
  rw [← wrap_apply h j n (IntOp.addi (b17 j.val s (ix1 n : S256.Idx)) 256#32)]
  unfold b49 b48 b47 b46 b45 b44 b43 b42
  pointwise

theorem b58_apply (n : Fin 256) : (b58 j.val s (ix2 n (0 : Fin 1) : S256x1.Idx)).toInt = (nd j n).val := b49_apply h j n

theorem b67_apply (n : Fin 256) : (b67 j.val s (ix2 n (0 : Fin 1) : S256x1.Idx)).toInt = (nd j n).val := b49_apply h j n

theorem b189_apply (n : Fin 256) : (b189 j.val s (ix2 n (0 : Fin 1) : S256x1.Idx)).toInt = (nd j n).val := b49_apply h j n

theorem b198_apply (n : Fin 256) : (b198 j.val s (ix2 n (0 : Fin 1) : S256x1.Idx)).toInt = (nd j n).val := b49_apply h j n

/-- The positions of the frame's nodes. -/
theorem b50_apply (n : Fin 256) (r : Fin 2) : b50 j.val s (ix2 n r : S256x2.Idx) = s.main_v0_1 (ix3 j (nd j n) r : S20x256x2.Idx) :=
  (Cert.Rows.gather2 _ _ n (nd j n) r (b49_apply h j n)).trans (b41_apply s j _ r)

/-- The hidden rows of the frame's nodes. -/
theorem b59_apply (n : Fin 256) (r : Fin 128) : b59 j.val s (ix2 n r : S256x128.Idx) = s.main_v0_16 (ix2 (nd j n) r : S256x128.Idx) :=
  Cert.Rows.gather128 _ _ n (nd j n) r (b58_apply h j n)

/-- The cell rows of the frame's nodes. -/
theorem b68_apply (n : Fin 256) (r : Fin 128) : b68 j.val s (ix2 n r : S256x128.Idx) = s.main_v0_17 (ix2 (nd j n) r : S256x128.Idx) :=
  Cert.Rows.gather128 _ _ n (nd j n) r (b67_apply h j n)

/-- A row names no node twice. -/
theorem nd_injective : Function.Injective (nd j) := fun a b e => by rw [← h.pos_nd j a, e, h.pos_nd]

/-- The trip sets the hidden row of each node. -/
theorem hidden_apply (k : Fin 256) (r : Fin 128) :
    (step j.val s).main_v0_16 (ix2 k r : S256x128.Idx) = b162 j.val s (ix2 (pos j k) r : S256x128.Idx) := by
  rw [step_main_v0_16]
  have e := Cert.Rows.scatter128 s.main_v0_16 (b189 j.val s) (b162 j.val s) (nd j) (nd_injective h j) (b189_apply h j) (pos j k) r
  rw [h.nd_pos] at e
  exact e

/-- The trip sets the cell row of each node. -/
theorem cell_apply (k : Fin 256) (r : Fin 128) :
    (step j.val s).main_v0_17 (ix2 k r : S256x128.Idx) = b160 j.val s (ix2 (pos j k) r : S256x128.Idx) := by
  rw [step_main_v0_17]
  have e := Cert.Rows.scatter128 s.main_v0_17 (b198 j.val s) (b160 j.val s) (nd j) (nd_injective h j) (b198_apply h j) (pos j k) r
  rw [h.nd_pos] at e
  exact e

/-- The row of the outputs that a node's output goes to. -/
def outRow (nd : Fin 20 → Fin 256 → Fin 256) (j : Fin 20) (n : Fin 256) : Fin 5120 := ⟨j.val * 256 + (nd j n).val, by omega⟩

theorem b180_apply (n : Fin 256) : (b180 j.val s (ix2 n (0 : Fin 1) : S256x1.Idx)).toInt = (outRow nd j n).val := by
  have w : ∀ (j : Fin 20) (q : Fin 256), IntOp.addi (IntOp.muli (BitVec.ofNat 32 j.val) 256#32) (BitVec.ofNat 32 q.val)
      = BitVec.ofNat 32 (j.val * 256 + q.val) := fun j q => by
    show BitVec.ofNat 32 j.val * BitVec.ofNat 32 256 + BitVec.ofNat 32 q.val = _
    rw [← BitVec.ofNat_mul, ← BitVec.ofNat_add]
  have e172 : b172 j.val s (ix1 n : S256.Idx) = BitVec.ofNat 32 (outRow nd j n).val := by
    have e : b172 j.val s (ix1 n : S256.Idx) = IntOp.addi (IntOp.muli (BitVec.ofNat 32 j.val) 256#32) (b17 j.val s (ix1 n : S256.Idx)) := by
      unfold b172 b171 b170 b169 b168
      pointwise
    rw [e, b17_apply, h.ids_eq, w]
    rfl
  have e : b180 j.val s (ix2 n (0 : Fin 1) : S256x1.Idx) = Scalar.select (IntOp.cmpi .slt (b172 j.val s (ix1 n : S256.Idx)) 0#32)
      (IntOp.addi (b172 j.val s (ix1 n : S256.Idx)) 5120#32) (b172 j.val s (ix1 n : S256.Idx)) := by
    unfold b180 b179 b178 b177 b176 b175 b174 b173
    pointwise
  have hlt := (outRow nd j n).isLt
  rw [e, e172, Routing.wrap_of_lt _ _ (by rw [BitVec.toNat_ofNat]; omega)]
  exact toInt_ofNat_of_lt (by omega)

/-- The trip sets the outputs of its own frame. -/
theorem out_hit (k : Fin 256) (e : Fin 5) : (step j.val s).main_v0_15 (ix2 (⟨j.val * 256 + k.val, by omega⟩ : Fin 5120) e : S5120x5.Idx)
    = b167 j.val s (ix2 (pos j k) e : S256x5.Idx) := by
  rw [step_main_v0_15]
  have q := Cert.Rows.scatter5 s.main_v0_15 (b180 j.val s) (b167 j.val s) (outRow nd j)
    (fun a b hab => nd_injective h j (Fin.ext (by have := congrArg Fin.val hab; unfold outRow at this; dsimp only at this; omega)))
    (b180_apply h j) (pos j k) e
  have ek : outRow nd j (pos j k) = (⟨j.val * 256 + k.val, by omega⟩ : Fin 5120) := Fin.ext (by
    show j.val * 256 + (nd j (pos j k)).val = _
    rw [h.nd_pos])
  rw [ek] at q
  exact q

/-- The trip leaves the outputs of every other frame. -/
theorem out_miss (i : Fin 20) (hi : i ≠ j) (k : Fin 256) (e : Fin 5) :
    (step j.val s).main_v0_15 (ix2 (⟨i.val * 256 + k.val, by omega⟩ : Fin 5120) e : S5120x5.Idx)
      = s.main_v0_15 (ix2 (⟨i.val * 256 + k.val, by omega⟩ : Fin 5120) e : S5120x5.Idx) := by
  rw [step_main_v0_15]
  refine Cert.Rows.scatter5_miss s.main_v0_15 (b180 j.val s) (b167 j.val s) (outRow nd j) (b180_apply h j) _ (fun n hn => hi (Fin.ext ?_)) e
  have := congrArg Fin.val hn
  unfold outRow at this
  dsimp only at this
  omega

end Cert.RefRows
-- ==== Proof.Frames.lean ====
/- The frames one after another. At every grid point `t` the kernel's blocks are what trip `t` of the reference computes: its new
   hidden and cell rows, in the frame's order, and its outputs, in node order; at the last point the hidden and cell
   rows go back to node order, as the reference keeps them. -/
module

public import proofs.«01_k».proof.Proof.Blocks
public import proofs.«01_k».proof.Proof.RefRows

@[expose] public section

set_option maxRecDepth 16384
set_option maxHeartbeats 4000000

noncomputable section

namespace Cert.Frames

open Idealize.ShloMosaic Idealize.ShloMosaic.TcCoe Idealize.SL.Sem
open Cert.KernelIdeal Cert.KernelIdeal.Gen Cert.KernelOut Cert.HostArrays Cert.Perm Cert.Blocks
open Cert.RefStep (State step b160 b162 b167)

variable {m : (ℓ : Loc nD τ sig) → Buf (Elt Ideal) ℓ} {c : Dev nD}

/-- The reference's state holds the kernel's arguments in the arrays that no trip changes. -/
structure Same (m : (ℓ : Loc nD τ sig) → Buf (Elt Ideal) ℓ) (c : Dev nD) (s : State Ideal) : Prop where
  ids : s.main_v0_0 = m ((c : Thread nD τ).loc main_arg5)
  pedxy : s.main_v0_1 = m ((c : Thread nD τ).loc main_arg0)
  grids : s.main_v0_2 = m ((c : Thread nD τ).loc main_arg4)
  wIn : s.main_v0_3 = m ((c : Thread nD τ).loc main_arg6)
  bIn : s.main_v0_4 = m ((c : Thread nD τ).loc main_arg7)
  wT : s.main_v0_5 = m ((c : Thread nD τ).loc main_arg8)
  bT : s.main_v0_6 = m ((c : Thread nD τ).loc main_arg9)
  wIh : s.main_v0_7 = m ((c : Thread nD τ).loc main_arg10)
  bIh : s.main_v0_8 = m ((c : Thread nD τ).loc main_arg11)
  wHh : s.main_v0_9 = m ((c : Thread nD τ).loc main_arg12)
  bHh : s.main_v0_10 = m ((c : Thread nD τ).loc main_arg13)
  wOut : s.main_v0_11 = m ((c : Thread nD τ).loc main_arg14)
  bOut : s.main_v0_12 = m ((c : Thread nD τ).loc main_arg15)

/-- A trip leaves them. -/
theorem Same.step {s : State Ideal} (a : Same m c s) (j : ℕ) : Same m c (step j s) := by
  cases a
  constructor <;> (unfold Cert.RefStep.step; dsimp only; assumption)

variable {nd pos : Fin 20 → Fin 256 → Fin 256}

/-- If the carried rows hold, at the rows that the table names, the hidden and cell rows of the frame's nodes, then the frame reads
    what the reference's trip reads. -/
theorem agrees {s : State Ideal} (a : Same m c s) (P : IsPerm (m ((c : Thread nD τ).loc main_arg5)) nd pos) (t : Fin cfg0.N)
    (h cc : Vec Ideal S256x128 .f32) (p : Fin 256 → Fin 256)
    (hp : ∀ n, prevRows (m ((c : Thread nD τ).loc main_arg5)) (ix2 (fr t) n : S20x256.Idx) = BitVec.ofNat 32 (p n).val)
    (hh : ∀ n r, h (ix2 (p n) r : S256x128.Idx) = s.main_v0_16 (ix2 (nd (fr t) n) r : S256x128.Idx))
    (hc : ∀ n r, cc (ix2 (p n) r : S256x128.Idx) = s.main_v0_17 (ix2 (nd (fr t) n) r : S256x128.Idx)) :
    Cert.Cell.Agrees (blk m c t) h cc t.val s := by
  have P' : IsPerm s.main_v0_0 nd pos := by rw [a.ids]; exact P
  refine ⟨?_, ?_, ?_, ?_, ?_, ?_, ?_, ?_, ?_, ?_, ?_, ?_, ?_, ?_⟩
  · funext i
    obtain ⟨n, r, rfl⟩ : ∃ (n : Fin 256) (r : Fin 128), i = (ix2 n r : S256x128.Idx) := ⟨_, _, eq_ix2 i⟩
    exact (Cert.Rows.pay3_apply _ _ n (p n) r ((prev_eq m c t n).trans (hp n))).trans
      ((hh n r).trans (Cert.RefRows.b59_apply P' (fr t) n r).symm)
  · funext i
    obtain ⟨n, r, rfl⟩ : ∃ (n : Fin 256) (r : Fin 128), i = (ix2 n r : S256x128.Idx) := ⟨_, _, eq_ix2 i⟩
    exact (Cert.Rows.pay4_apply _ _ n (p n) r ((prev_eq m c t n).trans (hp n))).trans
      ((hc n r).trans (Cert.RefRows.b68_apply P' (fr t) n r).symm)
  · funext i
    obtain ⟨n, r, rfl⟩ : ∃ (n : Fin 256) (r : Fin 2), i = (ix2 n r : S256x2.Idx) := ⟨_, _, eq_ix2 i⟩
    exact (Cert.Rows.pay5_apply _ _ n (nd (fr t) n) r ((idCol_eq m c t n).trans (P.ids_eq _ n))).trans
      ((pedxy_eq m c t _ r).trans ((congrFun a.pedxy _).symm.trans (Cert.RefRows.b50_apply P' (fr t) n r).symm))
  · intro n k q
    exact (grids_eq m c t n k q).trans ((congrFun a.grids _).symm.trans (Cert.RefRows.b100_apply s (fr t) n k q).symm)
  · exact ((wIn_eq m c t).trans (V_main_arg6 m c)).trans a.wIn.symm
  · exact a.bIn ▸ ⟨_, (bIn_eq m c t).trans (V_b_in m c)⟩
  · exact ((wT_eq m c t).trans (V_main_arg8 m c)).trans a.wT.symm
  · exact a.bT ▸ ⟨_, (bT_eq m c t).trans (V_b_t m c)⟩
  · exact a.wIh ▸ ⟨_, (wIh_eq m c t).trans (V_w_ih m c)⟩
  · exact a.bIh ▸ ⟨_, (bIh_eq m c t).trans (V_b_ih m c)⟩
  · exact a.wHh ▸ ⟨_, (wHh_eq m c t).trans (V_w_hh m c)⟩
  · exact a.bHh ▸ ⟨_, (bHh_eq m c t).trans (V_b_hh m c)⟩
  · exact a.wOut ▸ ⟨_, (wOut_eq m c t).trans (V_w_out m c)⟩
  · exact a.bOut ▸ ⟨_, (bOut_eq m c t).trans (V_b_out m c)⟩

/-- The reference's states, from one that holds the kernel's arguments. -/
structure Runs (m : (ℓ : Loc nD τ sig) → Buf (Elt Ideal) ℓ) (c : Dev nD) (it : ℕ → State Ideal) : Prop where
  same : Same m c (it 0)
  hid : (it 0).main_v0_16 = m ((c : Thread nD τ).loc main_arg1)
  cell : (it 0).main_v0_17 = m ((c : Thread nD τ).loc main_arg2)
  next : ∀ n, it (n + 1) = step n (it n)

variable {it : ℕ → State Ideal}

theorem Runs.same_at (R : Runs m c it) (n : ℕ) : Same m c (it n) := by
  induction n with
  | zero => exact R.same
  | succ n ih => rw [R.next]; exact ih.step n

/-- A trip's ids are the kernel's. -/
theorem Runs.perm (R : Runs m c it) (P : IsPerm (m ((c : Thread nD τ).loc main_arg5)) nd pos) (n : ℕ) :
    IsPerm (it n).main_v0_0 nd pos := by rw [(R.same_at n).ids]; exact P

theorem numPoints : cfg0.N = 20 := N_0

/-- At every grid point the frame reads what the reference's trip reads, and leaves what the kernel computes from it. -/
theorem point (R : Runs m c it) (P : IsPerm (m ((c : Thread nD τ).loc main_arg5)) nd pos) (n : ℕ) : ∀ hn : n < cfg0.N,
    ∃ h cc, Cert.Cell.Agrees (blk m c ⟨n, hn⟩) h cc n (it n)
      ∧ (outsAt0 m c n hn).1 = outRows (blk m c ⟨n, hn⟩) h cc
      ∧ (n < 19 → (outsAt0 m c n hn).2 = (newH (blk m c ⟨n, hn⟩) h cc, newC (blk m c ⟨n, hn⟩) h cc))
      ∧ (n = 19 → (outsAt0 m c n hn).2 = (lastH (blk m c ⟨n, hn⟩) h cc, lastC (blk m c ⟨n, hn⟩) h cc)) := by
  induction n with
  | zero =>
    intro hn
    refine ⟨iblk m c 5 ⟨0, hn⟩, iblk m c 6 ⟨0, hn⟩, agrees R.same P ⟨0, hn⟩ _ _ (nd 0) (prevRows_zero P) (fun n r => ?_) (fun n r => ?_),
      congrArg Prod.fst (outs_first m c ⟨0, hn⟩ rfl (Nat.zero_lt_succ 18) (Nat.zero_ne_add_one 18)),
      fun _ => congrArg Prod.snd (outs_first m c ⟨0, hn⟩ rfl (Nat.zero_lt_succ 18) (Nat.zero_ne_add_one 18)), fun e => absurd e (by decide)⟩
    · exact congrFun (((hidden_eq m c _).trans (V_main_arg1 m c)).trans R.hid.symm) _
    · exact congrFun (((cells_eq m c _).trans (V_main_arg2 m c)).trans R.cell.symm) _
  | succ n ih =>
    intro hn
    have h20 := numPoints
    obtain ⟨h, cc, ag, -, e, -⟩ := ih (by omega)
    have e := e (by omega)
    have e1 : (outsAt0 m c n (by omega)).2.1 = b162 n (it n) := (congrArg Prod.fst e).trans (Cert.Cell.newH_eq ag)
    have e2 : (outsAt0 m c n (by omega)).2.2 = b160 n (it n) := (congrArg Prod.snd e).trans (Cert.Cell.newC_eq ag)
    have P' := R.perm P n
    let t : Fin 19 := ⟨n, by omega⟩
    refine ⟨(outsAt0 m c n (by omega)).2.1, (outsAt0 m c n (by omega)).2.2,
      agrees (R.same_at (n + 1)) P ⟨n + 1, hn⟩ _ _ (fun q => pos t.castSucc (nd t.succ q)) (prevRows_succ P t) (fun q r => ?_) (fun q r => ?_),
      ?_, fun h1 => ?_, fun h1 => ?_⟩
    · exact (congrFun e1 _).trans ((Cert.RefRows.hidden_apply P' t.castSucc (nd t.succ q) r).symm.trans
        (congrFun (congrArg State.main_v0_16 (R.next n)) _).symm)
    · exact (congrFun e2 _).trans ((Cert.RefRows.cell_apply P' t.castSucc (nd t.succ q) r).symm.trans
        (congrFun (congrArg State.main_v0_17 (R.next n)) _).symm)
    · by_cases h1 : n + 1 < 19
      · exact congrArg Prod.fst (outs_next m c ⟨n + 1, hn⟩ (by show ¬ (n + 1) % 20 = 0; omega) h1 (by show ¬ (n + 1) % 20 = 19; omega))
      · exact congrArg Prod.fst (outs_last m c ⟨n + 1, hn⟩ (by show ¬ (n + 1) % 20 = 0; omega) h1 (by show (n + 1) % 20 = 19; omega))
    · exact congrArg Prod.snd (outs_next m c ⟨n + 1, hn⟩ (by show ¬ (n + 1) % 20 = 0; omega) h1 (by show ¬ (n + 1) % 20 = 19; omega))
    · exact congrArg Prod.snd (outs_last m c ⟨n + 1, hn⟩ (by show ¬ (n + 1) % 20 = 0; omega) (by show ¬ (n + 1 < 19); omega) (by show (n + 1) % 20 = 19; omega))

/-- The ids that put a frame's rows back in node order. -/
theorem idRow_perm (P : IsPerm (m ((c : Thread nD τ).loc main_arg5)) nd pos) (t : Fin cfg0.N) (n : Fin 256) :
    (blk m c t).idRow (ix3 (0 : Fin 1) (0 : Fin 1) n : S1x1x256.Idx) = BitVec.ofNat 32 (nd (fr t) n).val :=
  (idRow_eq m c t n).trans (P.ids_eq _ n)

/-- The outputs that a grid point leaves: for each node, its row of the trip's outputs. -/
theorem out_point (R : Runs m c it) (P : IsPerm (m ((c : Thread nD τ).loc main_arg5)) nd pos) (t : Fin cfg0.N) (k : Fin 256) (e : Fin 5) :
    (outsAt0 m c t.val t.isLt).1 (ix3 (0 : Fin 1) k e : S1x256x5.Idx) = b167 t.val (it t.val) (ix2 (pos (fr t) k) e : S256x5.Idx) := by
  obtain ⟨h, cc, ag, e1, -⟩ := point R P t.val t.isLt
  rw [e1, Cert.Cell.outT_eq ag]
  rw [← Cert.Rows.back5 (P.pos_nd (fr t)) (P.nd_pos (fr t)) (blk m c t).idRow (idRow_perm P t) (b167 t.val (it t.val)) k e]
  generalize (matmul (φ₁ := .f32) (φ₂ := .f32) dot_S256x256_S256x5_S256x5_1_0_0_1_n_n (some .fp32) (k0_pay2 (blk m c t).idRow)
    (b167 t.val (it t.val)) (constant S256x5 .f32 0x00000000#32)) = x
  pointwise

/-- The outputs that the reference ends with, frame by frame: each frame's trip sets them and no later trip changes them. -/
theorem out_ref (R : Runs m c it) (P : IsPerm (m ((c : Thread nD τ).loc main_arg5)) nd pos) (t : Fin 20) (k : Fin 256) (e : Fin 5)
    (n : ℕ) : t.val < n → n ≤ 20 → (it n).main_v0_15 (ix2 (⟨t.val * 256 + k.val, by omega⟩ : Fin 5120) e : Cert.ReferenceIdeal.S5120x5.Idx)
      = b167 t.val (it t.val) (ix2 (pos t k) e : S256x5.Idx) := by
  induction n with
  | zero => intro h; omega
  | succ n ih =>
    intro h1 h2
    rw [R.next]
    by_cases h : t.val = n
    · subst h
      exact Cert.RefRows.out_hit (R.perm P t.val) t k e
    · exact (Cert.RefRows.out_miss (R.perm P n) ⟨n, by omega⟩ t (fun q => h (congrArg Fin.val q)) k e).trans (ih (by omega) (by omega))

/-- The last grid point leaves the reference's last hidden rows. -/
theorem hidden_last (R : Runs m c it) (P : IsPerm (m ((c : Thread nD τ).loc main_arg5)) nd pos) (hn : 19 < cfg0.N) :
    (outsAt0 m c 19 hn).2.1 = (it 20).main_v0_16 := by
  obtain ⟨h, cc, ag, -, -, e⟩ := point R P 19 hn
  rw [(congrArg Prod.fst (e rfl)).trans (Cert.Cell.lastH_eq ag), R.next 19]
  funext i
  obtain ⟨k, r, rfl⟩ : ∃ (k : Fin 256) (r : Fin 128), i = (ix2 k r : S256x128.Idx) := ⟨_, _, eq_ix2 i⟩
  exact (Cert.Rows.back128 (P.pos_nd 19) (P.nd_pos 19) _ (idRow_perm P ⟨19, hn⟩) _ k r).trans
    (Cert.RefRows.hidden_apply (R.perm P 19) 19 k r).symm

/-- The last grid point leaves the reference's last cell rows. -/
theorem cell_last (R : Runs m c it) (P : IsPerm (m ((c : Thread nD τ).loc main_arg5)) nd pos) (hn : 19 < cfg0.N) :
    (outsAt0 m c 19 hn).2.2 = (it 20).main_v0_17 := by
  obtain ⟨h, cc, ag, -, -, e⟩ := point R P 19 hn
  rw [(congrArg Prod.snd (e rfl)).trans (Cert.Cell.lastC_eq ag), R.next 19]
  funext i
  obtain ⟨k, r, rfl⟩ : ∃ (k : Fin 256) (r : Fin 128), i = (ix2 k r : S256x128.Idx) := ⟨_, _, eq_ix2 i⟩
  exact (Cert.Rows.back128 (P.pos_nd 19) (P.nd_pos 19) _ (idRow_perm P ⟨19, hn⟩) _ k r).trans
    (Cert.RefRows.cell_apply (R.perm P 19) 19 k r).symm

end Cert.Frames
-- ==== Proof.Results.lean ====
/- The kernel's three results, whole: block `t` of the outputs is what grid point `t` leaves, and the last grid point
   leaves the hidden and cell rows; each is what the reference ends with. -/
module

public import proofs.«01_k».proof.Proof.Frames
public import proofs.«01_k».proof.Proof.Gen.KernelIdeal.Value

@[expose] public section

set_option maxRecDepth 16384
set_option maxHeartbeats 2000000

noncomputable section

namespace Cert.Results

open Idealize.ShloMosaic Idealize.ShloMosaic.TcCoe Idealize.SL.Sem
open Cert.KernelIdeal Cert.KernelIdeal.Gen Cert.KernelIdeal.Value Cert.Perm Cert.Blocks Cert.Frames
open Cert.RefStep (State R_main_v1 b167)
open Idealize.ShloMosaic.Pipeline (Dat)

variable {m : (ℓ : Loc nD τ sig) → Buf (Elt Ideal) ℓ} {c : Dev nD} {it : ℕ → State Ideal} {nd pos : Fin 20 → Fin 256 → Fin 256}

/-- The reference's first result is its list of output rows, cut into frames. -/
theorem result_apply (s : State Ideal) (t : Fin 20) (k : Fin 256) (e : Fin 5) :
    R_main_v1 s (ix3 t k e : S20x256x5.Idx)
      = s.main_v0_15 (ix2 (⟨t.val * 256 + k.val, by omega⟩ : Fin 5120) e : Cert.ReferenceIdeal.S5120x5.Idx) := by
  unfold R_main_v1
  generalize s.main_v0_15 = x
  pointwise

/-- Where the outputs' block of grid point `t` lies. -/
theorem index_out : ∀ t : Fin grid0.N,
    win0_17.index t 0 * 1 = t.val ∧ win0_17.index t 1 * 256 = 0 ∧ win0_17.index t 2 * 5 = 0 := by
  decide +kernel

theorem size_out : ∀ t : Fin grid0.N,
    win0_17.xsize (grid0.coords t) 0 = 1 ∧ win0_17.xsize (grid0.coords t) 1 = 256 ∧ win0_17.xsize (grid0.coords t) 2 = 5 := by
  decide +kernel

/-- Block `t` of an array of outputs at an index. -/
theorem out_block (x : Vec Ideal S20x256x5 .f32) (t : Fin cfg0.N) (k : Fin 256) (e : Fin 5) :
    ((cfg0.win 17).blk t).view.read (Elt Ideal) x (ix3 (0 : Fin 1) k e : S1x256x5.Idx) = x (ix3 (fr t) k e : S20x256x5.Idx) := by
  obtain ⟨e0, e1, e2⟩ := index_out t
  rw [View.read_apply]
  show x _ = _
  congr 1
  funext a
  apply Fin.ext
  match a with
  | ⟨0, _⟩ => show win0_17.index t 0 * 1 + 1 * 0 = t.val; rw [e0]; rfl
  | ⟨1, _⟩ => show win0_17.index t 1 * 256 + 1 * k.val = k.val; rw [e1]; omega
  | ⟨2, _⟩ => show win0_17.index t 2 * 5 + 1 * e.val = e.val; rw [e2]; omega

/-- What grid point `t` writes back is block `t` of the reference's outputs. -/
theorem out_flushed (R : Runs m c it) (P : IsPerm (m ((c : Thread nD τ).loc main_arg5)) nd pos) (t : Fin cfg0.N) :
    (dats m 0 c).flushed 17 t = ((cfg0.win 17).blk t).view.read (Elt Ideal) (R_main_v1 (it 20)) := by
  rw [flushed17]
  have h20 := numPoints
  funext i
  obtain ⟨x, k, e, rfl⟩ : ∃ (x : Fin 1) (k : Fin 256) (e : Fin 5), i = (ix3 x k e : S1x256x5.Idx) := ⟨_, _, _, eq_ix3 i⟩
  obtain rfl : x = 0 := Subsingleton.elim _ _
  refine Eq.trans ?_ (out_block (R_main_v1 (it 20)) t k e).symm
  rw [result_apply, out_ref R P (fr t) k e 20 (fr t).isLt le_rfl]
  exact out_point R P t k e

/-- Every index of the outputs lies in its frame's block. -/
theorem out_cover (i : S20x256x5.Idx) : ∃ t : Fin cfg0.N, (cfg0.win 17).flush t = true ∧ i ∈ ((cfg0.win 17).blk t).view.set := by
  have h0 : (i 0 : Nat) < 20 := (i 0).isLt
  have h1 : (i 1 : Nat) < 256 := (i 1).isLt
  have h2 : (i 2 : Nat) < 5 := (i 2).isLt
  refine ⟨⟨(i 0 : Nat), by rw [numPoints]; exact h0⟩, flush0_17 _, ?_⟩
  generalize ht : (⟨(i 0 : Nat), by rw [numPoints]; exact h0⟩ : Fin cfg0.N) = t
  have hv : t.val = (i 0 : Nat) := by rw [← ht]
  obtain ⟨e0, e1, e2⟩ := index_out t
  obtain ⟨s0, s1, s2⟩ := size_out t
  show i ∈ ((View.whole main_v20_0).slice (win0_17.rect t)).set
  rw [View.set_slice_whole, Rect.mem_set_unit]
  intro a
  match a with
  | ⟨0, _⟩ =>
    show win0_17.index t 0 * 1 ≤ (i 0 : Nat) ∧ (i 0 : Nat) < win0_17.index t 0 * 1 + win0_17.xsize (grid0.coords t) 0
    rw [e0, s0]; omega
  | ⟨1, _⟩ =>
    show win0_17.index t 1 * 256 ≤ (i 1 : Nat) ∧ (i 1 : Nat) < win0_17.index t 1 * 256 + win0_17.xsize (grid0.coords t) 1
    rw [e1, s1]; omega
  | ⟨2, _⟩ =>
    show win0_17.index t 2 * 5 ≤ (i 2 : Nat) ∧ (i 2 : Nat) < win0_17.index t 2 * 5 + win0_17.xsize (grid0.coords t) 2
    rw [e2, s2]; omega

/-- The kernel's outputs are the reference's. -/
theorem out_eq (R : Runs m c it) (P : IsPerm (m ((c : Thread nD τ).loc main_arg5)) nd pos) :
    (dats m 0 c).arrAt 17 cfg0.N = R_main_v1 (it 20) :=
  (dats m 0 c).arrAt_eq_of_cover 17 (R_main_v1 (it 20)) (fun t _ => out_flushed R P t) out_cover

/-- Windows 18 and 19 are their whole arrays at every grid point. -/
theorem index_carry : ∀ t : Fin grid0.N,
    (∀ a, win0_18.index t a * win0_18.size a = 0) ∧ (∀ a, win0_19.index t a * win0_19.size a = 0)
    ∧ (∀ a, win0_18.xsize (grid0.coords t) a = S256x128.size a) ∧ (∀ a, win0_19.xsize (grid0.coords t) a = S256x128.size a) := by
  decide +kernel

/-- The last grid point. -/
theorem last_point {t : Fin cfg0.N} (h : t.val % 20 = 19) : t.val = 19 := by
  have h1 := t.isLt
  have h2 := numPoints
  omega

/-- The last grid point writes back the reference's last hidden rows. -/
theorem hidden_flushed (R : Runs m c it) (P : IsPerm (m ((c : Thread nD τ).loc main_arg5)) nd pos) (t : Fin cfg0.N) (hf : (cfg0.win 18).flush t = true) :
    (dats m 0 c).flushed 18 t = ((cfg0.win 18).blk t).view.read (Elt Ideal) ((it 20).main_v0_16) := by
  have hn : (19 : ℕ) < cfg0.N := by rw [numPoints]; decide
  obtain rfl : t = ⟨19, hn⟩ := Fin.ext (last_point ((flush0_18 t).mp hf))
  have hz := (index_carry ⟨19, hn⟩).1
  rw [flushed18, hidden_last R P hn]
  exact (Memref.read_access_unit_zero (Elt Ideal) main_v20_1 (funext hz) (fun a => by rw [hz a]; simp) ((it 20).main_v0_16)).symm

/-- The last grid point writes back the reference's last cell rows. -/
theorem cell_flushed (R : Runs m c it) (P : IsPerm (m ((c : Thread nD τ).loc main_arg5)) nd pos) (t : Fin cfg0.N) (hf : (cfg0.win 19).flush t = true) :
    (dats m 0 c).flushed 19 t = ((cfg0.win 19).blk t).view.read (Elt Ideal) ((it 20).main_v0_17) := by
  have hn : (19 : ℕ) < cfg0.N := by rw [numPoints]; decide
  obtain rfl : t = ⟨19, hn⟩ := Fin.ext (last_point ((flush0_19 t).mp hf))
  have hz := (index_carry ⟨19, hn⟩).2.1
  rw [flushed19, cell_last R P hn]
  exact (Memref.read_access_unit_zero (Elt Ideal) main_v20_2 (funext hz) (fun a => by rw [hz a]; simp) ((it 20).main_v0_17)).symm

/-- The last grid point's blocks cover both arrays. -/
theorem hidden_cover (i : S256x128.Idx) : ∃ t : Fin cfg0.N, (cfg0.win 18).flush t = true ∧ i ∈ ((cfg0.win 18).blk t).view.set := by
  have hn : (19 : ℕ) < cfg0.N := by rw [numPoints]; decide
  refine ⟨⟨19, hn⟩, (flush0_18 ⟨19, hn⟩).mpr rfl, ?_⟩
  show i ∈ ((View.whole main_v20_1).slice (win0_18.rect ⟨19, hn⟩)).set
  rw [View.set_slice_whole, Rect.mem_set_unit]
  intro a
  show win0_18.index ⟨19, hn⟩ a * win0_18.size a ≤ (i a : Nat)
    ∧ (i a : Nat) < win0_18.index ⟨19, hn⟩ a * win0_18.size a + win0_18.xsize (grid0.coords ⟨19, hn⟩) a
  rw [(index_carry ⟨19, hn⟩).1 a, (index_carry ⟨19, hn⟩).2.2.1 a]
  exact ⟨Nat.zero_le _, by rw [Nat.zero_add]; exact (i a).isLt⟩

theorem cell_cover (i : S256x128.Idx) : ∃ t : Fin cfg0.N, (cfg0.win 19).flush t = true ∧ i ∈ ((cfg0.win 19).blk t).view.set := by
  have hn : (19 : ℕ) < cfg0.N := by rw [numPoints]; decide
  refine ⟨⟨19, hn⟩, (flush0_19 ⟨19, hn⟩).mpr rfl, ?_⟩
  show i ∈ ((View.whole main_v20_2).slice (win0_19.rect ⟨19, hn⟩)).set
  rw [View.set_slice_whole, Rect.mem_set_unit]
  intro a
  show win0_19.index ⟨19, hn⟩ a * win0_19.size a ≤ (i a : Nat)
    ∧ (i a : Nat) < win0_19.index ⟨19, hn⟩ a * win0_19.size a + win0_19.xsize (grid0.coords ⟨19, hn⟩) a
  rw [(index_carry ⟨19, hn⟩).2.1 a, (index_carry ⟨19, hn⟩).2.2.2 a]
  exact ⟨Nat.zero_le _, by rw [Nat.zero_add]; exact (i a).isLt⟩

/-- The kernel's hidden rows are the reference's. -/
theorem hidden_eq_ref (R : Runs m c it) (P : IsPerm (m ((c : Thread nD τ).loc main_arg5)) nd pos) :
    (dats m 0 c).arrAt 18 cfg0.N = (it 20).main_v0_16 :=
  (dats m 0 c).arrAt_eq_of_cover 18 ((it 20).main_v0_16) (hidden_flushed R P) hidden_cover

/-- The kernel's cell rows are the reference's. -/
theorem cell_eq_ref (R : Runs m c it) (P : IsPerm (m ((c : Thread nD τ).loc main_arg5)) nd pos) :
    (dats m 0 c).arrAt 19 cfg0.N = (it 20).main_v0_17 :=
  (dats m 0 c).arrAt_eq_of_cover 19 ((it 20).main_v0_17) (cell_flushed R P) cell_cover

end Cert.Results
-- ==== Proof.RefStepRun.lean ====
/- The reference's run over the step of RefStep.lean: at a valuation that holds a state (`Holds`) each value of a
   trip is that module's, one lemma each; so a trip keeps holding with `step` applied, and the run's results are the
   fields of `step` iterated twenty times (`run_iter`). -/
module

public import proofs.«01_k».proof.Proof.Gen.ReferenceIdeal.Run
public import proofs.«01_k».proof.Proof.RefStep

@[expose] public section

noncomputable section

namespace Cert.RefStepRun

open Idealize.ShloMosaic Idealize.ShloMosaic.TcCoe Idealize.SL.Sem Idealize.ShloMosaic.StableHlo
open Cert.ReferenceIdeal Cert.ReferenceIdeal.Gen Cert.ReferenceIdeal.Value
open Cert.RefStep (State step init)

variable {F : FTy → Type} [FloatOps F]

variable (V0 : Valuation τ sig (Elt F)) (s : State F) (j : ℕ)

/-- The valuation holds the state, the set-up values and the trip's number. -/
structure Holds : Prop where
  f_15 : V0 (Proc.devRef .tc main_v0_15) = s.main_v0_15
  f_16 : V0 (Proc.devRef .tc main_v0_16) = s.main_v0_16
  f_17 : V0 (Proc.devRef .tc main_v0_17) = s.main_v0_17
  f_0 : V0 (Proc.devRef .tc main_v0_0) = s.main_v0_0
  f_1 : V0 (Proc.devRef .tc main_v0_1) = s.main_v0_1
  f_2 : V0 (Proc.devRef .tc main_v0_2) = s.main_v0_2
  f_3 : V0 (Proc.devRef .tc main_v0_3) = s.main_v0_3
  f_4 : V0 (Proc.devRef .tc main_v0_4) = s.main_v0_4
  f_5 : V0 (Proc.devRef .tc main_v0_5) = s.main_v0_5
  f_6 : V0 (Proc.devRef .tc main_v0_6) = s.main_v0_6
  f_7 : V0 (Proc.devRef .tc main_v0_7) = s.main_v0_7
  f_8 : V0 (Proc.devRef .tc main_v0_8) = s.main_v0_8
  f_9 : V0 (Proc.devRef .tc main_v0_9) = s.main_v0_9
  f_10 : V0 (Proc.devRef .tc main_v0_10) = s.main_v0_10
  f_11 : V0 (Proc.devRef .tc main_v0_11) = s.main_v0_11
  f_12 : V0 (Proc.devRef .tc main_v0_12) = s.main_v0_12
  n_13 : V0 (Proc.devRef .tc main_v0_13) = constantI S_ 32 (BitVec.ofNat 32 j)
  n_14 : V0 (Proc.devRef .tc main_v0_14) = constantI S_ 32 (BitVec.ofNat 32 j)

variable {V0 s j}

set_option maxRecDepth 8192 in
theorem al_0 (h : Holds V0 s j) : (constantI S_ 32 1#32 : (Proc.devRef .tc main_while0b_c_18 : DevRef τ sig).ty.Contents (Elt F)) = Cert.RefStep.b0 j s := by
  unfold Cert.RefStep.b0
  rfl
set_option maxRecDepth 8192 in
theorem al_1 (h : Holds V0 s j) : (addi (V0 (Proc.devRef .tc main_v0_14)) (constantI S_ 32 1#32) : (Proc.devRef .tc main_while0b_v2 : DevRef τ sig).ty.Contents (Elt F)) = Cert.RefStep.b1 j s := by
  unfold Cert.RefStep.b1
  rw [← al_0 h, h.n_14]
  try rfl
set_option maxRecDepth 8192 in
theorem al_2 (h : Holds V0 s j) : (res_main_while0b_v3 V0 : (Proc.devRef .tc main_while0b_v3 : DevRef τ sig).ty.Contents (Elt F)) = Cert.RefStep.b2 j s := by
  unfold res_main_while0b_v3 Cert.RefStep.b2
  rw [h.n_14]
  try rfl
set_option maxRecDepth 8192 in
theorem al_3 (h : Holds V0 s j) : (constantI S_ 32 0#32 : (Proc.devRef .tc main_while0b_c_19 : DevRef τ sig).ty.Contents (Elt F)) = Cert.RefStep.b3 j s := by
  unfold Cert.RefStep.b3
  rfl
set_option maxRecDepth 8192 in
theorem al_4 (h : Holds V0 s j) : (cmpi .slt (res_main_while0b_v3 V0) (constantI S_ 32 0#32) : (Proc.devRef .tc main_while0b_v4 : DevRef τ sig).ty.Contents (Elt F)) = Cert.RefStep.b4 j s := by
  unfold Cert.RefStep.b4
  rw [← al_2 h, ← al_3 h]
  try rfl
set_option maxRecDepth 8192 in
theorem al_5 (h : Holds V0 s j) : (constantI S_ 32 20#32 : (Proc.devRef .tc main_while0b_c_20 : DevRef τ sig).ty.Contents (Elt F)) = Cert.RefStep.b5 j s := by
  unfold Cert.RefStep.b5
  rfl
set_option maxRecDepth 8192 in
theorem al_6 (h : Holds V0 s j) : (addi (res_main_while0b_v3 V0) (constantI S_ 32 20#32) : (Proc.devRef .tc main_while0b_v5 : DevRef τ sig).ty.Contents (Elt F)) = Cert.RefStep.b6 j s := by
  unfold Cert.RefStep.b6
  rw [← al_2 h, ← al_5 h]
  try rfl
set_option maxRecDepth 8192 in
theorem al_7 (h : Holds V0 s j) : (select (cmpi .slt (res_main_while0b_v3 V0) (constantI S_ 32 0#32)) (addi (res_main_while0b_v3 V0) (constantI S_ 32 20#32)) (res_main_while0b_v3 V0) : (Proc.devRef .tc main_while0b_v6 : DevRef τ sig).ty.Contents (Elt F)) = Cert.RefStep.b7 j s := by
  unfold Cert.RefStep.b7
  rw [← al_4 h, ← al_6 h, ← al_2 h]
  try rfl
set_option maxRecDepth 8192 in
theorem al_8 (h : Holds V0 s j) : (constantI S_ 32 0#32 : (Proc.devRef .tc main_while0b_c_21 : DevRef τ sig).ty.Contents (Elt F)) = Cert.RefStep.b8 j s := by
  unfold Cert.RefStep.b8
  rfl
set_option maxRecDepth 8192 in
theorem al_9 (h : Holds V0 s j) : (constantI S_ 32 0#32 : (Proc.devRef .tc main_while0b_c_22 : DevRef τ sig).ty.Contents (Elt F)) = Cert.RefStep.b9 j s := by
  unfold Cert.RefStep.b9
  rfl
set_option maxRecDepth 8192 in
theorem al_10 (h : Holds V0 s j) : (cmpi .slt (constantI S_ 32 0#32) (constantI S_ 32 0#32) : (Proc.devRef .tc main_while0b_v7 : DevRef τ sig).ty.Contents (Elt F)) = Cert.RefStep.b10 j s := by
  unfold Cert.RefStep.b10
  rw [← al_8 h, ← al_9 h]
  try rfl
set_option maxRecDepth 8192 in
theorem al_11 (h : Holds V0 s j) : (constantI S_ 32 0#32 : (Proc.devRef .tc main_while0b_c_23 : DevRef τ sig).ty.Contents (Elt F)) = Cert.RefStep.b11 j s := by
  unfold Cert.RefStep.b11
  rfl
set_option maxRecDepth 8192 in
theorem al_12 (h : Holds V0 s j) : (constantI S_ 32 256#32 : (Proc.devRef .tc main_while0b_c_24 : DevRef τ sig).ty.Contents (Elt F)) = Cert.RefStep.b12 j s := by
  unfold Cert.RefStep.b12
  rfl
set_option maxRecDepth 8192 in
theorem al_13 (h : Holds V0 s j) : (addi (constantI S_ 32 0#32) (constantI S_ 32 256#32) : (Proc.devRef .tc main_while0b_v8 : DevRef τ sig).ty.Contents (Elt F)) = Cert.RefStep.b13 j s := by
  unfold Cert.RefStep.b13
  rw [← al_11 h, ← al_12 h]
  try rfl
set_option maxRecDepth 8192 in
theorem al_14 (h : Holds V0 s j) : (constantI S_ 32 0#32 : (Proc.devRef .tc main_while0b_c_25 : DevRef τ sig).ty.Contents (Elt F)) = Cert.RefStep.b14 j s := by
  unfold Cert.RefStep.b14
  rfl
set_option maxRecDepth 8192 in
theorem al_15 (h : Holds V0 s j) : (select (cmpi .slt (constantI S_ 32 0#32) (constantI S_ 32 0#32)) (addi (constantI S_ 32 0#32) (constantI S_ 32 256#32)) (constantI S_ 32 0#32) : (Proc.devRef .tc main_while0b_v9 : DevRef τ sig).ty.Contents (Elt F)) = Cert.RefStep.b15 j s := by
  unfold Cert.RefStep.b15
  rw [← al_10 h, ← al_13 h, ← al_14 h]
  try rfl
set_option maxRecDepth 8192 in
theorem al_16 (h : Holds V0 s j) : (Host.dynamicSlice S1x256 (V0 (Proc.devRef .tc main_v0_0)) (fun k => (((![select (cmpi .slt (res_main_while0b_v3 V0) (constantI S_ 32 0#32)) (addi (res_main_while0b_v3 V0) (constantI S_ 32 20#32)) (res_main_while0b_v3 V0), select (cmpi .slt (constantI S_ 32 0#32) (constantI S_ 32 0#32)) (addi (constantI S_ 32 0#32) (constantI S_ 32 256#32)) (constantI S_ 32 0#32)] : Fin 2 → (⟨S_, .i32⟩ : BufTy).Contents (Elt F))) k (Shape.Idx.first h_S_)).toInt) sliceFits_S20x256_S1x256 : (Proc.devRef .tc main_while0b_v10 : DevRef τ sig).ty.Contents (Elt F)) = Cert.RefStep.b16 j s := by
  unfold Cert.RefStep.b16
  rw [← al_7 h, ← al_15 h, h.f_0]
  try rfl
set_option maxRecDepth 8192 in
theorem al_17 (h : Holds V0 s j) : (res_main_while0b_v11 V0 : (Proc.devRef .tc main_while0b_v11 : DevRef τ sig).ty.Contents (Elt F)) = Cert.RefStep.b17 j s := by
  unfold res_main_while0b_v11 Cert.RefStep.b17
  rw [← al_16 h]
  try rfl
set_option maxRecDepth 8192 in
theorem al_18 (h : Holds V0 s j) : (res_main_while0b_v12 V0 : (Proc.devRef .tc main_while0b_v12 : DevRef τ sig).ty.Contents (Elt F)) = Cert.RefStep.b18 j s := by
  unfold res_main_while0b_v12 Cert.RefStep.b18
  rw [h.n_14]
  try rfl
set_option maxRecDepth 8192 in
theorem al_19 (h : Holds V0 s j) : (constantI S_ 32 0#32 : (Proc.devRef .tc main_while0b_c_26 : DevRef τ sig).ty.Contents (Elt F)) = Cert.RefStep.b19 j s := by
  unfold Cert.RefStep.b19
  rfl
set_option maxRecDepth 8192 in
theorem al_20 (h : Holds V0 s j) : (cmpi .slt (res_main_while0b_v12 V0) (constantI S_ 32 0#32) : (Proc.devRef .tc main_while0b_v13 : DevRef τ sig).ty.Contents (Elt F)) = Cert.RefStep.b20 j s := by
  unfold Cert.RefStep.b20
  rw [← al_18 h, ← al_19 h]
  try rfl
set_option maxRecDepth 8192 in
theorem al_21 (h : Holds V0 s j) : (constantI S_ 32 20#32 : (Proc.devRef .tc main_while0b_c_27 : DevRef τ sig).ty.Contents (Elt F)) = Cert.RefStep.b21 j s := by
  unfold Cert.RefStep.b21
  rfl
set_option maxRecDepth 8192 in
theorem al_22 (h : Holds V0 s j) : (addi (res_main_while0b_v12 V0) (constantI S_ 32 20#32) : (Proc.devRef .tc main_while0b_v14 : DevRef τ sig).ty.Contents (Elt F)) = Cert.RefStep.b22 j s := by
  unfold Cert.RefStep.b22
  rw [← al_18 h, ← al_21 h]
  try rfl
set_option maxRecDepth 8192 in
theorem al_23 (h : Holds V0 s j) : (select (cmpi .slt (res_main_while0b_v12 V0) (constantI S_ 32 0#32)) (addi (res_main_while0b_v12 V0) (constantI S_ 32 20#32)) (res_main_while0b_v12 V0) : (Proc.devRef .tc main_while0b_v15 : DevRef τ sig).ty.Contents (Elt F)) = Cert.RefStep.b23 j s := by
  unfold Cert.RefStep.b23
  rw [← al_20 h, ← al_22 h, ← al_18 h]
  try rfl
set_option maxRecDepth 8192 in
theorem al_24 (h : Holds V0 s j) : (constantI S_ 32 0#32 : (Proc.devRef .tc main_while0b_c_28 : DevRef τ sig).ty.Contents (Elt F)) = Cert.RefStep.b24 j s := by
  unfold Cert.RefStep.b24
  rfl
set_option maxRecDepth 8192 in
theorem al_25 (h : Holds V0 s j) : (constantI S_ 32 0#32 : (Proc.devRef .tc main_while0b_c_29 : DevRef τ sig).ty.Contents (Elt F)) = Cert.RefStep.b25 j s := by
  unfold Cert.RefStep.b25
  rfl
set_option maxRecDepth 8192 in
theorem al_26 (h : Holds V0 s j) : (cmpi .slt (constantI S_ 32 0#32) (constantI S_ 32 0#32) : (Proc.devRef .tc main_while0b_v16 : DevRef τ sig).ty.Contents (Elt F)) = Cert.RefStep.b26 j s := by
  unfold Cert.RefStep.b26
  rw [← al_24 h, ← al_25 h]
  try rfl
set_option maxRecDepth 8192 in
theorem al_27 (h : Holds V0 s j) : (constantI S_ 32 0#32 : (Proc.devRef .tc main_while0b_c_30 : DevRef τ sig).ty.Contents (Elt F)) = Cert.RefStep.b27 j s := by
  unfold Cert.RefStep.b27
  rfl
set_option maxRecDepth 8192 in
theorem al_28 (h : Holds V0 s j) : (constantI S_ 32 256#32 : (Proc.devRef .tc main_while0b_c_31 : DevRef τ sig).ty.Contents (Elt F)) = Cert.RefStep.b28 j s := by
  unfold Cert.RefStep.b28
  rfl
set_option maxRecDepth 8192 in
theorem al_29 (h : Holds V0 s j) : (addi (constantI S_ 32 0#32) (constantI S_ 32 256#32) : (Proc.devRef .tc main_while0b_v17 : DevRef τ sig).ty.Contents (Elt F)) = Cert.RefStep.b29 j s := by
  unfold Cert.RefStep.b29
  rw [← al_27 h, ← al_28 h]
  try rfl
set_option maxRecDepth 8192 in
theorem al_30 (h : Holds V0 s j) : (constantI S_ 32 0#32 : (Proc.devRef .tc main_while0b_c_32 : DevRef τ sig).ty.Contents (Elt F)) = Cert.RefStep.b30 j s := by
  unfold Cert.RefStep.b30
  rfl
set_option maxRecDepth 8192 in
theorem al_31 (h : Holds V0 s j) : (select (cmpi .slt (constantI S_ 32 0#32) (constantI S_ 32 0#32)) (addi (constantI S_ 32 0#32) (constantI S_ 32 256#32)) (constantI S_ 32 0#32) : (Proc.devRef .tc main_while0b_v18 : DevRef τ sig).ty.Contents (Elt F)) = Cert.RefStep.b31 j s := by
  unfold Cert.RefStep.b31
  rw [← al_26 h, ← al_29 h, ← al_30 h]
  try rfl
set_option maxRecDepth 8192 in
theorem al_32 (h : Holds V0 s j) : (constantI S_ 32 0#32 : (Proc.devRef .tc main_while0b_c_33 : DevRef τ sig).ty.Contents (Elt F)) = Cert.RefStep.b32 j s := by
  unfold Cert.RefStep.b32
  rfl
set_option maxRecDepth 8192 in
theorem al_33 (h : Holds V0 s j) : (constantI S_ 32 0#32 : (Proc.devRef .tc main_while0b_c_34 : DevRef τ sig).ty.Contents (Elt F)) = Cert.RefStep.b33 j s := by
  unfold Cert.RefStep.b33
  rfl
set_option maxRecDepth 8192 in
theorem al_34 (h : Holds V0 s j) : (cmpi .slt (constantI S_ 32 0#32) (constantI S_ 32 0#32) : (Proc.devRef .tc main_while0b_v19 : DevRef τ sig).ty.Contents (Elt F)) = Cert.RefStep.b34 j s := by
  unfold Cert.RefStep.b34
  rw [← al_32 h, ← al_33 h]
  try rfl
set_option maxRecDepth 8192 in
theorem al_35 (h : Holds V0 s j) : (constantI S_ 32 0#32 : (Proc.devRef .tc main_while0b_c_35 : DevRef τ sig).ty.Contents (Elt F)) = Cert.RefStep.b35 j s := by
  unfold Cert.RefStep.b35
  rfl
set_option maxRecDepth 8192 in
theorem al_36 (h : Holds V0 s j) : (constantI S_ 32 2#32 : (Proc.devRef .tc main_while0b_c_36 : DevRef τ sig).ty.Contents (Elt F)) = Cert.RefStep.b36 j s := by
  unfold Cert.RefStep.b36
  rfl
set_option maxRecDepth 8192 in
theorem al_37 (h : Holds V0 s j) : (addi (constantI S_ 32 0#32) (constantI S_ 32 2#32) : (Proc.devRef .tc main_while0b_v20 : DevRef τ sig).ty.Contents (Elt F)) = Cert.RefStep.b37 j s := by
  unfold Cert.RefStep.b37
  rw [← al_35 h, ← al_36 h]
  try rfl
set_option maxRecDepth 8192 in
theorem al_38 (h : Holds V0 s j) : (constantI S_ 32 0#32 : (Proc.devRef .tc main_while0b_c_37 : DevRef τ sig).ty.Contents (Elt F)) = Cert.RefStep.b38 j s := by
  unfold Cert.RefStep.b38
  rfl
set_option maxRecDepth 8192 in
theorem al_39 (h : Holds V0 s j) : (select (cmpi .slt (constantI S_ 32 0#32) (constantI S_ 32 0#32)) (addi (constantI S_ 32 0#32) (constantI S_ 32 2#32)) (constantI S_ 32 0#32) : (Proc.devRef .tc main_while0b_v21 : DevRef τ sig).ty.Contents (Elt F)) = Cert.RefStep.b39 j s := by
  unfold Cert.RefStep.b39
  rw [← al_34 h, ← al_37 h, ← al_38 h]
  try rfl
set_option maxRecDepth 8192 in
theorem al_40 (h : Holds V0 s j) : (Host.dynamicSlice S1x256x2 (V0 (Proc.devRef .tc main_v0_1)) (fun k => (((![select (cmpi .slt (res_main_while0b_v12 V0) (constantI S_ 32 0#32)) (addi (res_main_while0b_v12 V0) (constantI S_ 32 20#32)) (res_main_while0b_v12 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 2#32)) (constantI S_ 32 0#32)] : Fin 3 → (⟨S_, .i32⟩ : BufTy).Contents (Elt F))) k (Shape.Idx.first h_S_)).toInt) sliceFits_S20x256x2_S1x256x2 : (Proc.devRef .tc main_while0b_v22 : DevRef τ sig).ty.Contents (Elt F)) = Cert.RefStep.b40 j s := by
  unfold Cert.RefStep.b40
  rw [← al_23 h, ← al_31 h, ← al_39 h, h.f_1]
  try rfl
set_option maxRecDepth 8192 in
theorem al_41 (h : Holds V0 s j) : (shapeCast S256x2 (Host.dynamicSlice S1x256x2 (V0 (Proc.devRef .tc main_v0_1)) (fun k => (((![select (cmpi .slt (res_main_while0b_v12 V0) (constantI S_ 32 0#32)) (addi (res_main_while0b_v12 V0) (constantI S_ 32 20#32)) (res_main_while0b_v12 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 2#32)) (constantI S_ 32 0#32)] : Fin 3 → (⟨S_, .i32⟩ : BufTy).Contents (Elt F))) k (Shape.Idx.first h_S_)).toInt) sliceFits_S20x256x2_S1x256x2) shapeCasts_S1x256x2_S256x2 : (Proc.devRef .tc main_while0b_v23 : DevRef τ sig).ty.Contents (Elt F)) = Cert.RefStep.b41 j s := by
  unfold Cert.RefStep.b41
  rw [← al_40 h]
  try rfl
set_option maxRecDepth 8192 in
theorem al_42 (h : Holds V0 s j) : (constantI S_ 32 0#32 : (Proc.devRef .tc main_while0b_c_38 : DevRef τ sig).ty.Contents (Elt F)) = Cert.RefStep.b42 j s := by
  unfold Cert.RefStep.b42
  rfl
set_option maxRecDepth 8192 in
theorem al_43 (h : Holds V0 s j) : (broadcastInDim S256 ![] bcast_S_S256 (constantI S_ 32 0#32) : (Proc.devRef .tc main_while0b_v24 : DevRef τ sig).ty.Contents (Elt F)) = Cert.RefStep.b43 j s := by
  unfold Cert.RefStep.b43
  rw [← al_42 h]
  try rfl
set_option maxRecDepth 8192 in
theorem al_44 (h : Holds V0 s j) : (cmpi .slt (res_main_while0b_v11 V0) (broadcastInDim S256 ![] bcast_S_S256 (constantI S_ 32 0#32)) : (Proc.devRef .tc main_while0b_v25 : DevRef τ sig).ty.Contents (Elt F)) = Cert.RefStep.b44 j s := by
  unfold Cert.RefStep.b44
  rw [← al_17 h, ← al_43 h]
  try rfl
set_option maxRecDepth 8192 in
theorem al_45 (h : Holds V0 s j) : (constantI S_ 32 256#32 : (Proc.devRef .tc main_while0b_c_39 : DevRef τ sig).ty.Contents (Elt F)) = Cert.RefStep.b45 j s := by
  unfold Cert.RefStep.b45
  rfl
set_option maxRecDepth 8192 in
theorem al_46 (h : Holds V0 s j) : (broadcastInDim S256 ![] bcast_S_S256 (constantI S_ 32 256#32) : (Proc.devRef .tc main_while0b_v26 : DevRef τ sig).ty.Contents (Elt F)) = Cert.RefStep.b46 j s := by
  unfold Cert.RefStep.b46
  rw [← al_45 h]
  try rfl
set_option maxRecDepth 8192 in
theorem al_47 (h : Holds V0 s j) : (addi (res_main_while0b_v11 V0) (broadcastInDim S256 ![] bcast_S_S256 (constantI S_ 32 256#32)) : (Proc.devRef .tc main_while0b_v27 : DevRef τ sig).ty.Contents (Elt F)) = Cert.RefStep.b47 j s := by
  unfold Cert.RefStep.b47
  rw [← al_17 h, ← al_46 h]
  try rfl
set_option maxRecDepth 8192 in
theorem al_48 (h : Holds V0 s j) : (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0) : (Proc.devRef .tc main_while0b_v28 : DevRef τ sig).ty.Contents (Elt F)) = Cert.RefStep.b48 j s := by
  unfold Cert.RefStep.b48
  rw [← al_44 h, ← al_47 h, ← al_17 h]
  try rfl
set_option maxRecDepth 8192 in
theorem al_49 (h : Holds V0 s j) : (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0)) : (Proc.devRef .tc main_while0b_v29 : DevRef τ sig).ty.Contents (Elt F)) = Cert.RefStep.b49 j s := by
  unfold Cert.RefStep.b49
  rw [← al_48 h]
  try rfl
set_option maxRecDepth 8192 in
theorem al_50 (h : Holds V0 s j) : (Host.gather gather_S256x2_S256x1_S256x2_1_0_n_n_0_1_12 (shapeCast S256x2 (Host.dynamicSlice S1x256x2 (V0 (Proc.devRef .tc main_v0_1)) (fun k => (((![select (cmpi .slt (res_main_while0b_v12 V0) (constantI S_ 32 0#32)) (addi (res_main_while0b_v12 V0) (constantI S_ 32 20#32)) (res_main_while0b_v12 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 2#32)) (constantI S_ 32 0#32)] : Fin 3 → (⟨S_, .i32⟩ : BufTy).Contents (Elt F))) k (Shape.Idx.first h_S_)).toInt) sliceFits_S20x256x2_S1x256x2) shapeCasts_S1x256x2_S256x2) (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0))) : (Proc.devRef .tc main_while0b_v30 : DevRef τ sig).ty.Contents (Elt F)) = Cert.RefStep.b50 j s := by
  unfold Cert.RefStep.b50
  rw [← al_41 h, ← al_49 h]
  try rfl
set_option maxRecDepth 8192 in
theorem al_51 (h : Holds V0 s j) : (constantI S_ 32 0#32 : (Proc.devRef .tc main_while0b_c_40 : DevRef τ sig).ty.Contents (Elt F)) = Cert.RefStep.b51 j s := by
  unfold Cert.RefStep.b51
  rfl
set_option maxRecDepth 8192 in
theorem al_52 (h : Holds V0 s j) : (broadcastInDim S256 ![] bcast_S_S256 (constantI S_ 32 0#32) : (Proc.devRef .tc main_while0b_v31 : DevRef τ sig).ty.Contents (Elt F)) = Cert.RefStep.b52 j s := by
  unfold Cert.RefStep.b52
  rw [← al_51 h]
  try rfl
set_option maxRecDepth 8192 in
theorem al_53 (h : Holds V0 s j) : (cmpi .slt (res_main_while0b_v11 V0) (broadcastInDim S256 ![] bcast_S_S256 (constantI S_ 32 0#32)) : (Proc.devRef .tc main_while0b_v32 : DevRef τ sig).ty.Contents (Elt F)) = Cert.RefStep.b53 j s := by
  unfold Cert.RefStep.b53
  rw [← al_17 h, ← al_52 h]
  try rfl
set_option maxRecDepth 8192 in
theorem al_54 (h : Holds V0 s j) : (constantI S_ 32 256#32 : (Proc.devRef .tc main_while0b_c_41 : DevRef τ sig).ty.Contents (Elt F)) = Cert.RefStep.b54 j s := by
  unfold Cert.RefStep.b54
  rfl
set_option maxRecDepth 8192 in
theorem al_55 (h : Holds V0 s j) : (broadcastInDim S256 ![] bcast_S_S256 (constantI S_ 32 256#32) : (Proc.devRef .tc main_while0b_v33 : DevRef τ sig).ty.Contents (Elt F)) = Cert.RefStep.b55 j s := by
  unfold Cert.RefStep.b55
  rw [← al_54 h]
  try rfl
set_option maxRecDepth 8192 in
theorem al_56 (h : Holds V0 s j) : (addi (res_main_while0b_v11 V0) (broadcastInDim S256 ![] bcast_S_S256 (constantI S_ 32 256#32)) : (Proc.devRef .tc main_while0b_v34 : DevRef τ sig).ty.Contents (Elt F)) = Cert.RefStep.b56 j s := by
  unfold Cert.RefStep.b56
  rw [← al_17 h, ← al_55 h]
  try rfl
set_option maxRecDepth 8192 in
theorem al_57 (h : Holds V0 s j) : (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0) : (Proc.devRef .tc main_while0b_v35 : DevRef τ sig).ty.Contents (Elt F)) = Cert.RefStep.b57 j s := by
  unfold Cert.RefStep.b57
  rw [← al_53 h, ← al_56 h, ← al_17 h]
  try rfl
set_option maxRecDepth 8192 in
theorem al_58 (h : Holds V0 s j) : (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0)) : (Proc.devRef .tc main_while0b_v36 : DevRef τ sig).ty.Contents (Elt F)) = Cert.RefStep.b58 j s := by
  unfold Cert.RefStep.b58
  rw [← al_57 h]
  try rfl
set_option maxRecDepth 8192 in
theorem al_59 (h : Holds V0 s j) : (res_main_while0b_v37 V0 : (Proc.devRef .tc main_while0b_v37 : DevRef τ sig).ty.Contents (Elt F)) = Cert.RefStep.b59 j s := by
  unfold res_main_while0b_v37 Cert.RefStep.b59
  rw [← al_58 h, h.f_16]
  try rfl
set_option maxRecDepth 8192 in
theorem al_60 (h : Holds V0 s j) : (constantI S_ 32 0#32 : (Proc.devRef .tc main_while0b_c_42 : DevRef τ sig).ty.Contents (Elt F)) = Cert.RefStep.b60 j s := by
  unfold Cert.RefStep.b60
  rfl
set_option maxRecDepth 8192 in
theorem al_61 (h : Holds V0 s j) : (broadcastInDim S256 ![] bcast_S_S256 (constantI S_ 32 0#32) : (Proc.devRef .tc main_while0b_v38 : DevRef τ sig).ty.Contents (Elt F)) = Cert.RefStep.b61 j s := by
  unfold Cert.RefStep.b61
  rw [← al_60 h]
  try rfl
set_option maxRecDepth 8192 in
theorem al_62 (h : Holds V0 s j) : (cmpi .slt (res_main_while0b_v11 V0) (broadcastInDim S256 ![] bcast_S_S256 (constantI S_ 32 0#32)) : (Proc.devRef .tc main_while0b_v39 : DevRef τ sig).ty.Contents (Elt F)) = Cert.RefStep.b62 j s := by
  unfold Cert.RefStep.b62
  rw [← al_17 h, ← al_61 h]
  try rfl
set_option maxRecDepth 8192 in
theorem al_63 (h : Holds V0 s j) : (constantI S_ 32 256#32 : (Proc.devRef .tc main_while0b_c_43 : DevRef τ sig).ty.Contents (Elt F)) = Cert.RefStep.b63 j s := by
  unfold Cert.RefStep.b63
  rfl
set_option maxRecDepth 8192 in
theorem al_64 (h : Holds V0 s j) : (broadcastInDim S256 ![] bcast_S_S256 (constantI S_ 32 256#32) : (Proc.devRef .tc main_while0b_v40 : DevRef τ sig).ty.Contents (Elt F)) = Cert.RefStep.b64 j s := by
  unfold Cert.RefStep.b64
  rw [← al_63 h]
  try rfl
set_option maxRecDepth 8192 in
theorem al_65 (h : Holds V0 s j) : (addi (res_main_while0b_v11 V0) (broadcastInDim S256 ![] bcast_S_S256 (constantI S_ 32 256#32)) : (Proc.devRef .tc main_while0b_v41 : DevRef τ sig).ty.Contents (Elt F)) = Cert.RefStep.b65 j s := by
  unfold Cert.RefStep.b65
  rw [← al_17 h, ← al_64 h]
  try rfl
set_option maxRecDepth 8192 in
theorem al_66 (h : Holds V0 s j) : (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0) : (Proc.devRef .tc main_while0b_v42 : DevRef τ sig).ty.Contents (Elt F)) = Cert.RefStep.b66 j s := by
  unfold Cert.RefStep.b66
  rw [← al_62 h, ← al_65 h, ← al_17 h]
  try rfl
set_option maxRecDepth 8192 in
theorem al_67 (h : Holds V0 s j) : (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0)) : (Proc.devRef .tc main_while0b_v43 : DevRef τ sig).ty.Contents (Elt F)) = Cert.RefStep.b67 j s := by
  unfold Cert.RefStep.b67
  rw [← al_66 h]
  try rfl
set_option maxRecDepth 8192 in
theorem al_68 (h : Holds V0 s j) : (Host.gather gather_S256x128_S256x1_S256x128_1_0_n_n_0_1_1128 (V0 (Proc.devRef .tc main_v0_17)) (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0))) : (Proc.devRef .tc main_while0b_v44 : DevRef τ sig).ty.Contents (Elt F)) = Cert.RefStep.b68 j s := by
  unfold Cert.RefStep.b68
  rw [← al_67 h, h.f_17]
  try rfl
set_option maxRecDepth 8192 in
theorem al_69 (h : Holds V0 s j) : (res_main_while0b_v45 V0 : (Proc.devRef .tc main_while0b_v45 : DevRef τ sig).ty.Contents (Elt F)) = Cert.RefStep.b69 j s := by
  unfold res_main_while0b_v45 Cert.RefStep.b69
  rw [h.n_14]
  try rfl
set_option maxRecDepth 8192 in
theorem al_70 (h : Holds V0 s j) : (constantI S_ 32 0#32 : (Proc.devRef .tc main_while0b_c_44 : DevRef τ sig).ty.Contents (Elt F)) = Cert.RefStep.b70 j s := by
  unfold Cert.RefStep.b70
  rfl
set_option maxRecDepth 8192 in
theorem al_71 (h : Holds V0 s j) : (cmpi .slt (res_main_while0b_v45 V0) (constantI S_ 32 0#32) : (Proc.devRef .tc main_while0b_v46 : DevRef τ sig).ty.Contents (Elt F)) = Cert.RefStep.b71 j s := by
  unfold Cert.RefStep.b71
  rw [← al_69 h, ← al_70 h]
  try rfl
set_option maxRecDepth 8192 in
theorem al_72 (h : Holds V0 s j) : (constantI S_ 32 20#32 : (Proc.devRef .tc main_while0b_c_45 : DevRef τ sig).ty.Contents (Elt F)) = Cert.RefStep.b72 j s := by
  unfold Cert.RefStep.b72
  rfl
set_option maxRecDepth 8192 in
theorem al_73 (h : Holds V0 s j) : (addi (res_main_while0b_v45 V0) (constantI S_ 32 20#32) : (Proc.devRef .tc main_while0b_v47 : DevRef τ sig).ty.Contents (Elt F)) = Cert.RefStep.b73 j s := by
  unfold Cert.RefStep.b73
  rw [← al_69 h, ← al_72 h]
  try rfl
set_option maxRecDepth 8192 in
theorem al_74 (h : Holds V0 s j) : (select (cmpi .slt (res_main_while0b_v45 V0) (constantI S_ 32 0#32)) (addi (res_main_while0b_v45 V0) (constantI S_ 32 20#32)) (res_main_while0b_v45 V0) : (Proc.devRef .tc main_while0b_v48 : DevRef τ sig).ty.Contents (Elt F)) = Cert.RefStep.b74 j s := by
  unfold Cert.RefStep.b74
  rw [← al_71 h, ← al_73 h, ← al_69 h]
  try rfl
set_option maxRecDepth 8192 in
theorem al_75 (h : Holds V0 s j) : (constantI S_ 32 0#32 : (Proc.devRef .tc main_while0b_c_46 : DevRef τ sig).ty.Contents (Elt F)) = Cert.RefStep.b75 j s := by
  unfold Cert.RefStep.b75
  rfl
set_option maxRecDepth 8192 in
theorem al_76 (h : Holds V0 s j) : (constantI S_ 32 0#32 : (Proc.devRef .tc main_while0b_c_47 : DevRef τ sig).ty.Contents (Elt F)) = Cert.RefStep.b76 j s := by
  unfold Cert.RefStep.b76
  rfl
set_option maxRecDepth 8192 in
theorem al_77 (h : Holds V0 s j) : (cmpi .slt (constantI S_ 32 0#32) (constantI S_ 32 0#32) : (Proc.devRef .tc main_while0b_v49 : DevRef τ sig).ty.Contents (Elt F)) = Cert.RefStep.b77 j s := by
  unfold Cert.RefStep.b77
  rw [← al_75 h, ← al_76 h]
  try rfl
set_option maxRecDepth 8192 in
theorem al_78 (h : Holds V0 s j) : (constantI S_ 32 0#32 : (Proc.devRef .tc main_while0b_c_48 : DevRef τ sig).ty.Contents (Elt F)) = Cert.RefStep.b78 j s := by
  unfold Cert.RefStep.b78
  rfl
set_option maxRecDepth 8192 in
theorem al_79 (h : Holds V0 s j) : (constantI S_ 32 256#32 : (Proc.devRef .tc main_while0b_c_49 : DevRef τ sig).ty.Contents (Elt F)) = Cert.RefStep.b79 j s := by
  unfold Cert.RefStep.b79
  rfl
set_option maxRecDepth 8192 in
theorem al_80 (h : Holds V0 s j) : (addi (constantI S_ 32 0#32) (constantI S_ 32 256#32) : (Proc.devRef .tc main_while0b_v50 : DevRef τ sig).ty.Contents (Elt F)) = Cert.RefStep.b80 j s := by
  unfold Cert.RefStep.b80
  rw [← al_78 h, ← al_79 h]
  try rfl
set_option maxRecDepth 8192 in
theorem al_81 (h : Holds V0 s j) : (constantI S_ 32 0#32 : (Proc.devRef .tc main_while0b_c_50 : DevRef τ sig).ty.Contents (Elt F)) = Cert.RefStep.b81 j s := by
  unfold Cert.RefStep.b81
  rfl
set_option maxRecDepth 8192 in
theorem al_82 (h : Holds V0 s j) : (select (cmpi .slt (constantI S_ 32 0#32) (constantI S_ 32 0#32)) (addi (constantI S_ 32 0#32) (constantI S_ 32 256#32)) (constantI S_ 32 0#32) : (Proc.devRef .tc main_while0b_v51 : DevRef τ sig).ty.Contents (Elt F)) = Cert.RefStep.b82 j s := by
  unfold Cert.RefStep.b82
  rw [← al_77 h, ← al_80 h, ← al_81 h]
  try rfl
set_option maxRecDepth 8192 in
theorem al_83 (h : Holds V0 s j) : (constantI S_ 32 0#32 : (Proc.devRef .tc main_while0b_c_51 : DevRef τ sig).ty.Contents (Elt F)) = Cert.RefStep.b83 j s := by
  unfold Cert.RefStep.b83
  rfl
set_option maxRecDepth 8192 in
theorem al_84 (h : Holds V0 s j) : (constantI S_ 32 0#32 : (Proc.devRef .tc main_while0b_c_52 : DevRef τ sig).ty.Contents (Elt F)) = Cert.RefStep.b84 j s := by
  unfold Cert.RefStep.b84
  rfl
set_option maxRecDepth 8192 in
theorem al_85 (h : Holds V0 s j) : (cmpi .slt (constantI S_ 32 0#32) (constantI S_ 32 0#32) : (Proc.devRef .tc main_while0b_v52 : DevRef τ sig).ty.Contents (Elt F)) = Cert.RefStep.b85 j s := by
  unfold Cert.RefStep.b85
  rw [← al_83 h, ← al_84 h]
  try rfl
set_option maxRecDepth 8192 in
theorem al_86 (h : Holds V0 s j) : (constantI S_ 32 0#32 : (Proc.devRef .tc main_while0b_c_53 : DevRef τ sig).ty.Contents (Elt F)) = Cert.RefStep.b86 j s := by
  unfold Cert.RefStep.b86
  rfl
set_option maxRecDepth 8192 in
theorem al_87 (h : Holds V0 s j) : (constantI S_ 32 256#32 : (Proc.devRef .tc main_while0b_c_54 : DevRef τ sig).ty.Contents (Elt F)) = Cert.RefStep.b87 j s := by
  unfold Cert.RefStep.b87
  rfl
set_option maxRecDepth 8192 in
theorem al_88 (h : Holds V0 s j) : (addi (constantI S_ 32 0#32) (constantI S_ 32 256#32) : (Proc.devRef .tc main_while0b_v53 : DevRef τ sig).ty.Contents (Elt F)) = Cert.RefStep.b88 j s := by
  unfold Cert.RefStep.b88
  rw [← al_86 h, ← al_87 h]
  try rfl
set_option maxRecDepth 8192 in
theorem al_89 (h : Holds V0 s j) : (constantI S_ 32 0#32 : (Proc.devRef .tc main_while0b_c_55 : DevRef τ sig).ty.Contents (Elt F)) = Cert.RefStep.b89 j s := by
  unfold Cert.RefStep.b89
  rfl
set_option maxRecDepth 8192 in
theorem al_90 (h : Holds V0 s j) : (select (cmpi .slt (constantI S_ 32 0#32) (constantI S_ 32 0#32)) (addi (constantI S_ 32 0#32) (constantI S_ 32 256#32)) (constantI S_ 32 0#32) : (Proc.devRef .tc main_while0b_v54 : DevRef τ sig).ty.Contents (Elt F)) = Cert.RefStep.b90 j s := by
  unfold Cert.RefStep.b90
  rw [← al_85 h, ← al_88 h, ← al_89 h]
  try rfl
set_option maxRecDepth 8192 in
theorem al_91 (h : Holds V0 s j) : (constantI S_ 32 0#32 : (Proc.devRef .tc main_while0b_c_56 : DevRef τ sig).ty.Contents (Elt F)) = Cert.RefStep.b91 j s := by
  unfold Cert.RefStep.b91
  rfl
set_option maxRecDepth 8192 in
theorem al_92 (h : Holds V0 s j) : (constantI S_ 32 0#32 : (Proc.devRef .tc main_while0b_c_57 : DevRef τ sig).ty.Contents (Elt F)) = Cert.RefStep.b92 j s := by
  unfold Cert.RefStep.b92
  rfl
set_option maxRecDepth 8192 in
theorem al_93 (h : Holds V0 s j) : (cmpi .slt (constantI S_ 32 0#32) (constantI S_ 32 0#32) : (Proc.devRef .tc main_while0b_v55 : DevRef τ sig).ty.Contents (Elt F)) = Cert.RefStep.b93 j s := by
  unfold Cert.RefStep.b93
  rw [← al_91 h, ← al_92 h]
  try rfl
set_option maxRecDepth 8192 in
theorem al_94 (h : Holds V0 s j) : (constantI S_ 32 0#32 : (Proc.devRef .tc main_while0b_c_58 : DevRef τ sig).ty.Contents (Elt F)) = Cert.RefStep.b94 j s := by
  unfold Cert.RefStep.b94
  rfl
set_option maxRecDepth 8192 in
theorem al_95 (h : Holds V0 s j) : (constantI S_ 32 16#32 : (Proc.devRef .tc main_while0b_c_59 : DevRef τ sig).ty.Contents (Elt F)) = Cert.RefStep.b95 j s := by
  unfold Cert.RefStep.b95
  rfl
set_option maxRecDepth 8192 in
theorem al_96 (h : Holds V0 s j) : (addi (constantI S_ 32 0#32) (constantI S_ 32 16#32) : (Proc.devRef .tc main_while0b_v56 : DevRef τ sig).ty.Contents (Elt F)) = Cert.RefStep.b96 j s := by
  unfold Cert.RefStep.b96
  rw [← al_94 h, ← al_95 h]
  try rfl
set_option maxRecDepth 8192 in
theorem al_97 (h : Holds V0 s j) : (constantI S_ 32 0#32 : (Proc.devRef .tc main_while0b_c_60 : DevRef τ sig).ty.Contents (Elt F)) = Cert.RefStep.b97 j s := by
  unfold Cert.RefStep.b97
  rfl
set_option maxRecDepth 8192 in
theorem al_98 (h : Holds V0 s j) : (select (cmpi .slt (constantI S_ 32 0#32) (constantI S_ 32 0#32)) (addi (constantI S_ 32 0#32) (constantI S_ 32 16#32)) (constantI S_ 32 0#32) : (Proc.devRef .tc main_while0b_v57 : DevRef τ sig).ty.Contents (Elt F)) = Cert.RefStep.b98 j s := by
  unfold Cert.RefStep.b98
  rw [← al_93 h, ← al_96 h, ← al_97 h]
  try rfl
set_option maxRecDepth 8192 in
theorem al_99 (h : Holds V0 s j) : (Host.dynamicSlice S1x256x256x16 (V0 (Proc.devRef .tc main_v0_2)) (fun k => (((![select (cmpi .slt (res_main_while0b_v45 V0) (constantI S_ 32 0#32)) (addi (res_main_while0b_v45 V0) (constantI S_ 32 20#32)) (res_main_while0b_v45 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 16#32)) (constantI S_ 32 0#32)] : Fin 4 → (⟨S_, .i32⟩ : BufTy).Contents (Elt F))) k (Shape.Idx.first h_S_)).toInt) sliceFits_S20x256x256x16_S1x256x256x16 : (Proc.devRef .tc main_while0b_v58 : DevRef τ sig).ty.Contents (Elt F)) = Cert.RefStep.b99 j s := by
  unfold Cert.RefStep.b99
  rw [← al_74 h, ← al_82 h, ← al_90 h, ← al_98 h, h.f_2]
  try rfl
set_option maxRecDepth 8192 in
theorem al_100 (h : Holds V0 s j) : (shapeCast S256x256x16 (Host.dynamicSlice S1x256x256x16 (V0 (Proc.devRef .tc main_v0_2)) (fun k => (((![select (cmpi .slt (res_main_while0b_v45 V0) (constantI S_ 32 0#32)) (addi (res_main_while0b_v45 V0) (constantI S_ 32 20#32)) (res_main_while0b_v45 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 16#32)) (constantI S_ 32 0#32)] : Fin 4 → (⟨S_, .i32⟩ : BufTy).Contents (Elt F))) k (Shape.Idx.first h_S_)).toInt) sliceFits_S20x256x256x16_S1x256x256x16) shapeCasts_S1x256x256x16_S256x256x16 : (Proc.devRef .tc main_while0b_v59 : DevRef τ sig).ty.Contents (Elt F)) = Cert.RefStep.b100 j s := by
  unfold Cert.RefStep.b100
  rw [← al_99 h]
  try rfl
set_option maxRecDepth 8192 in
theorem al_101 (h : Holds V0 s j) : (Host.dotGeneral dot_S256x256x16_S256x128_S256x16x128_1_0_02_1_n_n none (shapeCast S256x256x16 (Host.dynamicSlice S1x256x256x16 (V0 (Proc.devRef .tc main_v0_2)) (fun k => (((![select (cmpi .slt (res_main_while0b_v45 V0) (constantI S_ 32 0#32)) (addi (res_main_while0b_v45 V0) (constantI S_ 32 20#32)) (res_main_while0b_v45 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 16#32)) (constantI S_ 32 0#32)] : Fin 4 → (⟨S_, .i32⟩ : BufTy).Contents (Elt F))) k (Shape.Idx.first h_S_)).toInt) sliceFits_S20x256x256x16_S1x256x256x16) shapeCasts_S1x256x256x16_S256x256x16) (res_main_while0b_v37 V0) : (Proc.devRef .tc main_while0b_v60 : DevRef τ sig).ty.Contents (Elt F)) = Cert.RefStep.b101 j s := by
  unfold Cert.RefStep.b101
  rw [← al_100 h, ← al_59 h]
  try rfl
set_option maxRecDepth 8192 in
theorem al_102 (h : Holds V0 s j) : (shapeCast S256x2048 (Host.dotGeneral dot_S256x256x16_S256x128_S256x16x128_1_0_02_1_n_n none (shapeCast S256x256x16 (Host.dynamicSlice S1x256x256x16 (V0 (Proc.devRef .tc main_v0_2)) (fun k => (((![select (cmpi .slt (res_main_while0b_v45 V0) (constantI S_ 32 0#32)) (addi (res_main_while0b_v45 V0) (constantI S_ 32 20#32)) (res_main_while0b_v45 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 16#32)) (constantI S_ 32 0#32)] : Fin 4 → (⟨S_, .i32⟩ : BufTy).Contents (Elt F))) k (Shape.Idx.first h_S_)).toInt) sliceFits_S20x256x256x16_S1x256x256x16) shapeCasts_S1x256x256x16_S256x256x16) (res_main_while0b_v37 V0)) shapeCasts_S256x16x128_S256x2048 : (Proc.devRef .tc main_while0b_v61 : DevRef τ sig).ty.Contents (Elt F)) = Cert.RefStep.b102 j s := by
  unfold Cert.RefStep.b102
  rw [← al_101 h]
  try rfl
set_option maxRecDepth 8192 in
theorem al_103 (h : Holds V0 s j) : (Host.dotGeneral dot_S256x2_S2x64_S256x64_1_0_0_1_n_n none (Host.gather gather_S256x2_S256x1_S256x2_1_0_n_n_0_1_12 (shapeCast S256x2 (Host.dynamicSlice S1x256x2 (V0 (Proc.devRef .tc main_v0_1)) (fun k => (((![select (cmpi .slt (res_main_while0b_v12 V0) (constantI S_ 32 0#32)) (addi (res_main_while0b_v12 V0) (constantI S_ 32 20#32)) (res_main_while0b_v12 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 2#32)) (constantI S_ 32 0#32)] : Fin 3 → (⟨S_, .i32⟩ : BufTy).Contents (Elt F))) k (Shape.Idx.first h_S_)).toInt) sliceFits_S20x256x2_S1x256x2) shapeCasts_S1x256x2_S256x2) (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0)))) (V0 (Proc.devRef .tc main_v0_3)) : (Proc.devRef .tc main_while0b_v62 : DevRef τ sig).ty.Contents (Elt F)) = Cert.RefStep.b103 j s := by
  unfold Cert.RefStep.b103
  rw [← al_50 h, h.f_3]
  try rfl
set_option maxRecDepth 8192 in
theorem al_104 (h : Holds V0 s j) : (broadcastInDim S1x64 ![1] bcast_S64_S1x64_1 (V0 (Proc.devRef .tc main_v0_4)) : (Proc.devRef .tc main_while0b_v63 : DevRef τ sig).ty.Contents (Elt F)) = Cert.RefStep.b104 j s := by
  unfold Cert.RefStep.b104
  rw [h.f_4]
  try rfl
set_option maxRecDepth 8192 in
theorem al_105 (h : Holds V0 s j) : (broadcastInDim S256x64 ![0, 1] bcast_S1x64_S256x64_0_1 (broadcastInDim S1x64 ![1] bcast_S64_S1x64_1 (V0 (Proc.devRef .tc main_v0_4))) : (Proc.devRef .tc main_while0b_v64 : DevRef τ sig).ty.Contents (Elt F)) = Cert.RefStep.b105 j s := by
  unfold Cert.RefStep.b105
  rw [← al_104 h]
  try rfl
set_option maxRecDepth 8192 in
theorem al_106 (h : Holds V0 s j) : (addf (Host.dotGeneral dot_S256x2_S2x64_S256x64_1_0_0_1_n_n none (Host.gather gather_S256x2_S256x1_S256x2_1_0_n_n_0_1_12 (shapeCast S256x2 (Host.dynamicSlice S1x256x2 (V0 (Proc.devRef .tc main_v0_1)) (fun k => (((![select (cmpi .slt (res_main_while0b_v12 V0) (constantI S_ 32 0#32)) (addi (res_main_while0b_v12 V0) (constantI S_ 32 20#32)) (res_main_while0b_v12 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 2#32)) (constantI S_ 32 0#32)] : Fin 3 → (⟨S_, .i32⟩ : BufTy).Contents (Elt F))) k (Shape.Idx.first h_S_)).toInt) sliceFits_S20x256x2_S1x256x2) shapeCasts_S1x256x2_S256x2) (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0)))) (V0 (Proc.devRef .tc main_v0_3))) (broadcastInDim S256x64 ![0, 1] bcast_S1x64_S256x64_0_1 (broadcastInDim S1x64 ![1] bcast_S64_S1x64_1 (V0 (Proc.devRef .tc main_v0_4)))) : (Proc.devRef .tc main_while0b_v65 : DevRef τ sig).ty.Contents (Elt F)) = Cert.RefStep.b106 j s := by
  unfold Cert.RefStep.b106
  rw [← al_103 h, ← al_105 h]
  try rfl
set_option maxRecDepth 8192 in
theorem al_107 (h : Holds V0 s j) : (constant S_ .f32 0x00000000#32 : (Proc.devRef .tc main_while0b_call0_cst : DevRef τ sig).ty.Contents (Elt F)) = Cert.RefStep.b107 j s := by
  unfold Cert.RefStep.b107
  rfl
set_option maxRecDepth 8192 in
theorem al_108 (h : Holds V0 s j) : (broadcastInDim S256x64 ![] bcast_S_S256x64 (constant S_ .f32 0x00000000#32) : (Proc.devRef .tc main_while0b_call0_v0 : DevRef τ sig).ty.Contents (Elt F)) = Cert.RefStep.b108 j s := by
  unfold Cert.RefStep.b108
  rw [← al_107 h]
  try rfl
set_option maxRecDepth 8192 in
theorem al_109 (h : Holds V0 s j) : (maximumf (addf (Host.dotGeneral dot_S256x2_S2x64_S256x64_1_0_0_1_n_n none (Host.gather gather_S256x2_S256x1_S256x2_1_0_n_n_0_1_12 (shapeCast S256x2 (Host.dynamicSlice S1x256x2 (V0 (Proc.devRef .tc main_v0_1)) (fun k => (((![select (cmpi .slt (res_main_while0b_v12 V0) (constantI S_ 32 0#32)) (addi (res_main_while0b_v12 V0) (constantI S_ 32 20#32)) (res_main_while0b_v12 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 2#32)) (constantI S_ 32 0#32)] : Fin 3 → (⟨S_, .i32⟩ : BufTy).Contents (Elt F))) k (Shape.Idx.first h_S_)).toInt) sliceFits_S20x256x2_S1x256x2) shapeCasts_S1x256x2_S256x2) (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0)))) (V0 (Proc.devRef .tc main_v0_3))) (broadcastInDim S256x64 ![0, 1] bcast_S1x64_S256x64_0_1 (broadcastInDim S1x64 ![1] bcast_S64_S1x64_1 (V0 (Proc.devRef .tc main_v0_4))))) (broadcastInDim S256x64 ![] bcast_S_S256x64 (constant S_ .f32 0x00000000#32)) : (Proc.devRef .tc main_while0b_v66 : DevRef τ sig).ty.Contents (Elt F)) = Cert.RefStep.b109 j s := by
  unfold Cert.RefStep.b109
  rw [← al_106 h, ← al_108 h]
  try rfl
set_option maxRecDepth 8192 in
theorem al_110 (h : Holds V0 s j) : (Host.dotGeneral dot_S256x2048_S2048x64_S256x64_1_0_0_1_n_n none (shapeCast S256x2048 (Host.dotGeneral dot_S256x256x16_S256x128_S256x16x128_1_0_02_1_n_n none (shapeCast S256x256x16 (Host.dynamicSlice S1x256x256x16 (V0 (Proc.devRef .tc main_v0_2)) (fun k => (((![select (cmpi .slt (res_main_while0b_v45 V0) (constantI S_ 32 0#32)) (addi (res_main_while0b_v45 V0) (constantI S_ 32 20#32)) (res_main_while0b_v45 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 16#32)) (constantI S_ 32 0#32)] : Fin 4 → (⟨S_, .i32⟩ : BufTy).Contents (Elt F))) k (Shape.Idx.first h_S_)).toInt) sliceFits_S20x256x256x16_S1x256x256x16) shapeCasts_S1x256x256x16_S256x256x16) (res_main_while0b_v37 V0)) shapeCasts_S256x16x128_S256x2048) (V0 (Proc.devRef .tc main_v0_5)) : (Proc.devRef .tc main_while0b_v67 : DevRef τ sig).ty.Contents (Elt F)) = Cert.RefStep.b110 j s := by
  unfold Cert.RefStep.b110
  rw [← al_102 h, h.f_5]
  try rfl
set_option maxRecDepth 8192 in
theorem al_111 (h : Holds V0 s j) : (broadcastInDim S1x64 ![1] bcast_S64_S1x64_1 (V0 (Proc.devRef .tc main_v0_6)) : (Proc.devRef .tc main_while0b_v68 : DevRef τ sig).ty.Contents (Elt F)) = Cert.RefStep.b111 j s := by
  unfold Cert.RefStep.b111
  rw [h.f_6]
  try rfl
set_option maxRecDepth 8192 in
theorem al_112 (h : Holds V0 s j) : (broadcastInDim S256x64 ![0, 1] bcast_S1x64_S256x64_0_1 (broadcastInDim S1x64 ![1] bcast_S64_S1x64_1 (V0 (Proc.devRef .tc main_v0_6))) : (Proc.devRef .tc main_while0b_v69 : DevRef τ sig).ty.Contents (Elt F)) = Cert.RefStep.b112 j s := by
  unfold Cert.RefStep.b112
  rw [← al_111 h]
  try rfl
set_option maxRecDepth 8192 in
theorem al_113 (h : Holds V0 s j) : (addf (Host.dotGeneral dot_S256x2048_S2048x64_S256x64_1_0_0_1_n_n none (shapeCast S256x2048 (Host.dotGeneral dot_S256x256x16_S256x128_S256x16x128_1_0_02_1_n_n none (shapeCast S256x256x16 (Host.dynamicSlice S1x256x256x16 (V0 (Proc.devRef .tc main_v0_2)) (fun k => (((![select (cmpi .slt (res_main_while0b_v45 V0) (constantI S_ 32 0#32)) (addi (res_main_while0b_v45 V0) (constantI S_ 32 20#32)) (res_main_while0b_v45 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 16#32)) (constantI S_ 32 0#32)] : Fin 4 → (⟨S_, .i32⟩ : BufTy).Contents (Elt F))) k (Shape.Idx.first h_S_)).toInt) sliceFits_S20x256x256x16_S1x256x256x16) shapeCasts_S1x256x256x16_S256x256x16) (res_main_while0b_v37 V0)) shapeCasts_S256x16x128_S256x2048) (V0 (Proc.devRef .tc main_v0_5))) (broadcastInDim S256x64 ![0, 1] bcast_S1x64_S256x64_0_1 (broadcastInDim S1x64 ![1] bcast_S64_S1x64_1 (V0 (Proc.devRef .tc main_v0_6)))) : (Proc.devRef .tc main_while0b_v70 : DevRef τ sig).ty.Contents (Elt F)) = Cert.RefStep.b113 j s := by
  unfold Cert.RefStep.b113
  rw [← al_110 h, ← al_112 h]
  try rfl
set_option maxRecDepth 8192 in
theorem al_114 (h : Holds V0 s j) : (constant S_ .f32 0x00000000#32 : (Proc.devRef .tc main_while0b_call1_cst : DevRef τ sig).ty.Contents (Elt F)) = Cert.RefStep.b114 j s := by
  unfold Cert.RefStep.b114
  rfl
set_option maxRecDepth 8192 in
theorem al_115 (h : Holds V0 s j) : (broadcastInDim S256x64 ![] bcast_S_S256x64 (constant S_ .f32 0x00000000#32) : (Proc.devRef .tc main_while0b_call1_v0 : DevRef τ sig).ty.Contents (Elt F)) = Cert.RefStep.b115 j s := by
  unfold Cert.RefStep.b115
  rw [← al_114 h]
  try rfl
set_option maxRecDepth 8192 in
theorem al_116 (h : Holds V0 s j) : (maximumf (addf (Host.dotGeneral dot_S256x2048_S2048x64_S256x64_1_0_0_1_n_n none (shapeCast S256x2048 (Host.dotGeneral dot_S256x256x16_S256x128_S256x16x128_1_0_02_1_n_n none (shapeCast S256x256x16 (Host.dynamicSlice S1x256x256x16 (V0 (Proc.devRef .tc main_v0_2)) (fun k => (((![select (cmpi .slt (res_main_while0b_v45 V0) (constantI S_ 32 0#32)) (addi (res_main_while0b_v45 V0) (constantI S_ 32 20#32)) (res_main_while0b_v45 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 16#32)) (constantI S_ 32 0#32)] : Fin 4 → (⟨S_, .i32⟩ : BufTy).Contents (Elt F))) k (Shape.Idx.first h_S_)).toInt) sliceFits_S20x256x256x16_S1x256x256x16) shapeCasts_S1x256x256x16_S256x256x16) (res_main_while0b_v37 V0)) shapeCasts_S256x16x128_S256x2048) (V0 (Proc.devRef .tc main_v0_5))) (broadcastInDim S256x64 ![0, 1] bcast_S1x64_S256x64_0_1 (broadcastInDim S1x64 ![1] bcast_S64_S1x64_1 (V0 (Proc.devRef .tc main_v0_6))))) (broadcastInDim S256x64 ![] bcast_S_S256x64 (constant S_ .f32 0x00000000#32)) : (Proc.devRef .tc main_while0b_v71 : DevRef τ sig).ty.Contents (Elt F)) = Cert.RefStep.b116 j s := by
  unfold Cert.RefStep.b116
  rw [← al_113 h, ← al_115 h]
  try rfl
set_option maxRecDepth 8192 in
theorem al_117 (h : Holds V0 s j) : (concatenate S256x128 1 [⟨S256x64, (maximumf (addf (Host.dotGeneral dot_S256x2_S2x64_S256x64_1_0_0_1_n_n none (Host.gather gather_S256x2_S256x1_S256x2_1_0_n_n_0_1_12 (shapeCast S256x2 (Host.dynamicSlice S1x256x2 (V0 (Proc.devRef .tc main_v0_1)) (fun k => (((![select (cmpi .slt (res_main_while0b_v12 V0) (constantI S_ 32 0#32)) (addi (res_main_while0b_v12 V0) (constantI S_ 32 20#32)) (res_main_while0b_v12 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 2#32)) (constantI S_ 32 0#32)] : Fin 3 → (⟨S_, .i32⟩ : BufTy).Contents (Elt F))) k (Shape.Idx.first h_S_)).toInt) sliceFits_S20x256x2_S1x256x2) shapeCasts_S1x256x2_S256x2) (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0)))) (V0 (Proc.devRef .tc main_v0_3))) (broadcastInDim S256x64 ![0, 1] bcast_S1x64_S256x64_0_1 (broadcastInDim S1x64 ![1] bcast_S64_S1x64_1 (V0 (Proc.devRef .tc main_v0_4))))) (broadcastInDim S256x64 ![] bcast_S_S256x64 (constant S_ .f32 0x00000000#32)))⟩, ⟨S256x64, (maximumf (addf (Host.dotGeneral dot_S256x2048_S2048x64_S256x64_1_0_0_1_n_n none (shapeCast S256x2048 (Host.dotGeneral dot_S256x256x16_S256x128_S256x16x128_1_0_02_1_n_n none (shapeCast S256x256x16 (Host.dynamicSlice S1x256x256x16 (V0 (Proc.devRef .tc main_v0_2)) (fun k => (((![select (cmpi .slt (res_main_while0b_v45 V0) (constantI S_ 32 0#32)) (addi (res_main_while0b_v45 V0) (constantI S_ 32 20#32)) (res_main_while0b_v45 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 16#32)) (constantI S_ 32 0#32)] : Fin 4 → (⟨S_, .i32⟩ : BufTy).Contents (Elt F))) k (Shape.Idx.first h_S_)).toInt) sliceFits_S20x256x256x16_S1x256x256x16) shapeCasts_S1x256x256x16_S256x256x16) (res_main_while0b_v37 V0)) shapeCasts_S256x16x128_S256x2048) (V0 (Proc.devRef .tc main_v0_5))) (broadcastInDim S256x64 ![0, 1] bcast_S1x64_S256x64_0_1 (broadcastInDim S1x64 ![1] bcast_S64_S1x64_1 (V0 (Proc.devRef .tc main_v0_6))))) (broadcastInDim S256x64 ![] bcast_S_S256x64 (constant S_ .f32 0x00000000#32)))⟩] concatenates_S256x64_S256x64_S256x128_d1 : (Proc.devRef .tc main_while0b_v72 : DevRef τ sig).ty.Contents (Elt F)) = Cert.RefStep.b117 j s := by
  unfold Cert.RefStep.b117
  rw [← al_109 h, ← al_116 h]
  try rfl
set_option maxRecDepth 8192 in
theorem al_118 (h : Holds V0 s j) : (transpose S128x512 [1, 0] (V0 (Proc.devRef .tc main_v0_7)) transposes_S512x128_S128x512_1_0 : (Proc.devRef .tc main_while0b_v73 : DevRef τ sig).ty.Contents (Elt F)) = Cert.RefStep.b118 j s := by
  unfold Cert.RefStep.b118
  rw [h.f_7]
  try rfl
set_option maxRecDepth 8192 in
theorem al_119 (h : Holds V0 s j) : (Host.dotGeneral dot_S256x128_S128x512_S256x512_1_0_0_1_n_n none (concatenate S256x128 1 [⟨S256x64, (maximumf (addf (Host.dotGeneral dot_S256x2_S2x64_S256x64_1_0_0_1_n_n none (Host.gather gather_S256x2_S256x1_S256x2_1_0_n_n_0_1_12 (shapeCast S256x2 (Host.dynamicSlice S1x256x2 (V0 (Proc.devRef .tc main_v0_1)) (fun k => (((![select (cmpi .slt (res_main_while0b_v12 V0) (constantI S_ 32 0#32)) (addi (res_main_while0b_v12 V0) (constantI S_ 32 20#32)) (res_main_while0b_v12 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 2#32)) (constantI S_ 32 0#32)] : Fin 3 → (⟨S_, .i32⟩ : BufTy).Contents (Elt F))) k (Shape.Idx.first h_S_)).toInt) sliceFits_S20x256x2_S1x256x2) shapeCasts_S1x256x2_S256x2) (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0)))) (V0 (Proc.devRef .tc main_v0_3))) (broadcastInDim S256x64 ![0, 1] bcast_S1x64_S256x64_0_1 (broadcastInDim S1x64 ![1] bcast_S64_S1x64_1 (V0 (Proc.devRef .tc main_v0_4))))) (broadcastInDim S256x64 ![] bcast_S_S256x64 (constant S_ .f32 0x00000000#32)))⟩, ⟨S256x64, (maximumf (addf (Host.dotGeneral dot_S256x2048_S2048x64_S256x64_1_0_0_1_n_n none (shapeCast S256x2048 (Host.dotGeneral dot_S256x256x16_S256x128_S256x16x128_1_0_02_1_n_n none (shapeCast S256x256x16 (Host.dynamicSlice S1x256x256x16 (V0 (Proc.devRef .tc main_v0_2)) (fun k => (((![select (cmpi .slt (res_main_while0b_v45 V0) (constantI S_ 32 0#32)) (addi (res_main_while0b_v45 V0) (constantI S_ 32 20#32)) (res_main_while0b_v45 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 16#32)) (constantI S_ 32 0#32)] : Fin 4 → (⟨S_, .i32⟩ : BufTy).Contents (Elt F))) k (Shape.Idx.first h_S_)).toInt) sliceFits_S20x256x256x16_S1x256x256x16) shapeCasts_S1x256x256x16_S256x256x16) (res_main_while0b_v37 V0)) shapeCasts_S256x16x128_S256x2048) (V0 (Proc.devRef .tc main_v0_5))) (broadcastInDim S256x64 ![0, 1] bcast_S1x64_S256x64_0_1 (broadcastInDim S1x64 ![1] bcast_S64_S1x64_1 (V0 (Proc.devRef .tc main_v0_6))))) (broadcastInDim S256x64 ![] bcast_S_S256x64 (constant S_ .f32 0x00000000#32)))⟩] concatenates_S256x64_S256x64_S256x128_d1) (transpose S128x512 [1, 0] (V0 (Proc.devRef .tc main_v0_7)) transposes_S512x128_S128x512_1_0) : (Proc.devRef .tc main_while0b_v74 : DevRef τ sig).ty.Contents (Elt F)) = Cert.RefStep.b119 j s := by
  unfold Cert.RefStep.b119
  rw [← al_117 h, ← al_118 h]
  try rfl
set_option maxRecDepth 8192 in
theorem al_120 (h : Holds V0 s j) : (broadcastInDim S1x512 ![1] bcast_S512_S1x512_1 (V0 (Proc.devRef .tc main_v0_8)) : (Proc.devRef .tc main_while0b_v75 : DevRef τ sig).ty.Contents (Elt F)) = Cert.RefStep.b120 j s := by
  unfold Cert.RefStep.b120
  rw [h.f_8]
  try rfl
set_option maxRecDepth 8192 in
theorem al_121 (h : Holds V0 s j) : (broadcastInDim S256x512 ![0, 1] bcast_S1x512_S256x512_0_1 (broadcastInDim S1x512 ![1] bcast_S512_S1x512_1 (V0 (Proc.devRef .tc main_v0_8))) : (Proc.devRef .tc main_while0b_v76 : DevRef τ sig).ty.Contents (Elt F)) = Cert.RefStep.b121 j s := by
  unfold Cert.RefStep.b121
  rw [← al_120 h]
  try rfl
set_option maxRecDepth 8192 in
theorem al_122 (h : Holds V0 s j) : (addf (Host.dotGeneral dot_S256x128_S128x512_S256x512_1_0_0_1_n_n none (concatenate S256x128 1 [⟨S256x64, (maximumf (addf (Host.dotGeneral dot_S256x2_S2x64_S256x64_1_0_0_1_n_n none (Host.gather gather_S256x2_S256x1_S256x2_1_0_n_n_0_1_12 (shapeCast S256x2 (Host.dynamicSlice S1x256x2 (V0 (Proc.devRef .tc main_v0_1)) (fun k => (((![select (cmpi .slt (res_main_while0b_v12 V0) (constantI S_ 32 0#32)) (addi (res_main_while0b_v12 V0) (constantI S_ 32 20#32)) (res_main_while0b_v12 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 2#32)) (constantI S_ 32 0#32)] : Fin 3 → (⟨S_, .i32⟩ : BufTy).Contents (Elt F))) k (Shape.Idx.first h_S_)).toInt) sliceFits_S20x256x2_S1x256x2) shapeCasts_S1x256x2_S256x2) (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0)))) (V0 (Proc.devRef .tc main_v0_3))) (broadcastInDim S256x64 ![0, 1] bcast_S1x64_S256x64_0_1 (broadcastInDim S1x64 ![1] bcast_S64_S1x64_1 (V0 (Proc.devRef .tc main_v0_4))))) (broadcastInDim S256x64 ![] bcast_S_S256x64 (constant S_ .f32 0x00000000#32)))⟩, ⟨S256x64, (maximumf (addf (Host.dotGeneral dot_S256x2048_S2048x64_S256x64_1_0_0_1_n_n none (shapeCast S256x2048 (Host.dotGeneral dot_S256x256x16_S256x128_S256x16x128_1_0_02_1_n_n none (shapeCast S256x256x16 (Host.dynamicSlice S1x256x256x16 (V0 (Proc.devRef .tc main_v0_2)) (fun k => (((![select (cmpi .slt (res_main_while0b_v45 V0) (constantI S_ 32 0#32)) (addi (res_main_while0b_v45 V0) (constantI S_ 32 20#32)) (res_main_while0b_v45 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 16#32)) (constantI S_ 32 0#32)] : Fin 4 → (⟨S_, .i32⟩ : BufTy).Contents (Elt F))) k (Shape.Idx.first h_S_)).toInt) sliceFits_S20x256x256x16_S1x256x256x16) shapeCasts_S1x256x256x16_S256x256x16) (res_main_while0b_v37 V0)) shapeCasts_S256x16x128_S256x2048) (V0 (Proc.devRef .tc main_v0_5))) (broadcastInDim S256x64 ![0, 1] bcast_S1x64_S256x64_0_1 (broadcastInDim S1x64 ![1] bcast_S64_S1x64_1 (V0 (Proc.devRef .tc main_v0_6))))) (broadcastInDim S256x64 ![] bcast_S_S256x64 (constant S_ .f32 0x00000000#32)))⟩] concatenates_S256x64_S256x64_S256x128_d1) (transpose S128x512 [1, 0] (V0 (Proc.devRef .tc main_v0_7)) transposes_S512x128_S128x512_1_0)) (broadcastInDim S256x512 ![0, 1] bcast_S1x512_S256x512_0_1 (broadcastInDim S1x512 ![1] bcast_S512_S1x512_1 (V0 (Proc.devRef .tc main_v0_8)))) : (Proc.devRef .tc main_while0b_v77 : DevRef τ sig).ty.Contents (Elt F)) = Cert.RefStep.b122 j s := by
  unfold Cert.RefStep.b122
  rw [← al_119 h, ← al_121 h]
  try rfl
set_option maxRecDepth 8192 in
theorem al_123 (h : Holds V0 s j) : (transpose S128x512 [1, 0] (V0 (Proc.devRef .tc main_v0_9)) transposes_S512x128_S128x512_1_0 : (Proc.devRef .tc main_while0b_v78 : DevRef τ sig).ty.Contents (Elt F)) = Cert.RefStep.b123 j s := by
  unfold Cert.RefStep.b123
  rw [h.f_9]
  try rfl
set_option maxRecDepth 8192 in
theorem al_124 (h : Holds V0 s j) : (Host.dotGeneral dot_S256x128_S128x512_S256x512_1_0_0_1_n_n none (res_main_while0b_v37 V0) (transpose S128x512 [1, 0] (V0 (Proc.devRef .tc main_v0_9)) transposes_S512x128_S128x512_1_0) : (Proc.devRef .tc main_while0b_v79 : DevRef τ sig).ty.Contents (Elt F)) = Cert.RefStep.b124 j s := by
  unfold Cert.RefStep.b124
  rw [← al_59 h, ← al_123 h]
  try rfl
set_option maxRecDepth 8192 in
theorem al_125 (h : Holds V0 s j) : (addf (addf (Host.dotGeneral dot_S256x128_S128x512_S256x512_1_0_0_1_n_n none (concatenate S256x128 1 [⟨S256x64, (maximumf (addf (Host.dotGeneral dot_S256x2_S2x64_S256x64_1_0_0_1_n_n none (Host.gather gather_S256x2_S256x1_S256x2_1_0_n_n_0_1_12 (shapeCast S256x2 (Host.dynamicSlice S1x256x2 (V0 (Proc.devRef .tc main_v0_1)) (fun k => (((![select (cmpi .slt (res_main_while0b_v12 V0) (constantI S_ 32 0#32)) (addi (res_main_while0b_v12 V0) (constantI S_ 32 20#32)) (res_main_while0b_v12 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 2#32)) (constantI S_ 32 0#32)] : Fin 3 → (⟨S_, .i32⟩ : BufTy).Contents (Elt F))) k (Shape.Idx.first h_S_)).toInt) sliceFits_S20x256x2_S1x256x2) shapeCasts_S1x256x2_S256x2) (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0)))) (V0 (Proc.devRef .tc main_v0_3))) (broadcastInDim S256x64 ![0, 1] bcast_S1x64_S256x64_0_1 (broadcastInDim S1x64 ![1] bcast_S64_S1x64_1 (V0 (Proc.devRef .tc main_v0_4))))) (broadcastInDim S256x64 ![] bcast_S_S256x64 (constant S_ .f32 0x00000000#32)))⟩, ⟨S256x64, (maximumf (addf (Host.dotGeneral dot_S256x2048_S2048x64_S256x64_1_0_0_1_n_n none (shapeCast S256x2048 (Host.dotGeneral dot_S256x256x16_S256x128_S256x16x128_1_0_02_1_n_n none (shapeCast S256x256x16 (Host.dynamicSlice S1x256x256x16 (V0 (Proc.devRef .tc main_v0_2)) (fun k => (((![select (cmpi .slt (res_main_while0b_v45 V0) (constantI S_ 32 0#32)) (addi (res_main_while0b_v45 V0) (constantI S_ 32 20#32)) (res_main_while0b_v45 V0), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 16#32)) (constantI S_ 32 0#32)] : Fin 4 → (⟨S_, .i32⟩ : BufTy).Contents (Elt F))) k (Shape.Idx.first h_S_)).toInt) sliceFits_S20x256x256x16_S1x256x256x16) shapeCasts_S1x256x256x16_S256x256x16) (res_main_while0b_v37 V0)) shapeCasts_S256x16x128_S256x2048) (V0 (Proc.devRef .tc main_v0_5))) (broadcastInDim S256x64 ![0, 1] bcast_S1x64_S256x64_0_1 (broadcastInDim S1x64 ![1] bcast_S64_S1x64_1 (V0 (Proc.devRef .tc main_v0_6))))) (broadcastInDim S256x64 ![] bcast_S_S256x64 (constant S_ .f32 0x00000000#32)))⟩] concatenates_S256x64_S256x64_S256x128_d1) (transpose S128x512 [1, 0] (V0 (Proc.devRef .tc main_v0_7)) transposes_S512x128_S128x512_1_0)) (broadcastInDim S256x512 ![0, 1] bcast_S1x512_S256x512_0_1 (broadcastInDim S1x512 ![1] bcast_S512_S1x512_1 (V0 (Proc.devRef .tc main_v0_8))))) (Host.dotGeneral dot_S256x128_S128x512_S256x512_1_0_0_1_n_n none (res_main_while0b_v37 V0) (transpose S128x512 [1, 0] (V0 (Proc.devRef .tc main_v0_9)) transposes_S512x128_S128x512_1_0)) : (Proc.devRef .tc main_while0b_v80 : DevRef τ sig).ty.Contents (Elt F)) = Cert.RefStep.b125 j s := by
  unfold Cert.RefStep.b125
  rw [← al_122 h, ← al_124 h]
  try rfl
set_option maxRecDepth 8192 in
theorem al_126 (h : Holds V0 s j) : (broadcastInDim S1x512 ![1] bcast_S512_S1x512_1 (V0 (Proc.devRef .tc main_v0_10)) : (Proc.devRef .tc main_while0b_v81 : DevRef τ sig).ty.Contents (Elt F)) = Cert.RefStep.b126 j s := by
  unfold Cert.RefStep.b126
  rw [h.f_10]
  try rfl
set_option maxRecDepth 8192 in
theorem al_127 (h : Holds V0 s j) : (broadcastInDim S256x512 ![0, 1] bcast_S1x512_S256x512_0_1 (broadcastInDim S1x512 ![1] bcast_S512_S1x512_1 (V0 (Proc.devRef .tc main_v0_10))) : (Proc.devRef .tc main_while0b_v82 : DevRef τ sig).ty.Contents (Elt F)) = Cert.RefStep.b127 j s := by
  unfold Cert.RefStep.b127
  rw [← al_126 h]
  try rfl
set_option maxRecDepth 8192 in
theorem al_128 (h : Holds V0 s j) : (res_main_while0b_v83 V0 : (Proc.devRef .tc main_while0b_v83 : DevRef τ sig).ty.Contents (Elt F)) = Cert.RefStep.b128 j s := by
  unfold res_main_while0b_v83 Cert.RefStep.b128
  rw [← al_125 h, ← al_127 h]
  try rfl
set_option maxRecDepth 8192 in
theorem al_129 (h : Holds V0 s j) : (extractStridedSlice S256x128 ![0, 0] (res_main_while0b_v83 V0) slices_S256x512_S256x128_0_0 : (Proc.devRef .tc main_while0b_v84 : DevRef τ sig).ty.Contents (Elt F)) = Cert.RefStep.b129 j s := by
  unfold Cert.RefStep.b129
  rw [← al_128 h]
  try rfl
set_option maxRecDepth 8192 in
theorem al_130 (h : Holds V0 s j) : (extractStridedSlice S256x128 ![0, 128] (res_main_while0b_v83 V0) slices_S256x512_S256x128_0_128 : (Proc.devRef .tc main_while0b_v85 : DevRef τ sig).ty.Contents (Elt F)) = Cert.RefStep.b130 j s := by
  unfold Cert.RefStep.b130
  rw [← al_128 h]
  try rfl
set_option maxRecDepth 8192 in
theorem al_131 (h : Holds V0 s j) : (extractStridedSlice S256x128 ![0, 256] (res_main_while0b_v83 V0) slices_S256x512_S256x128_0_256 : (Proc.devRef .tc main_while0b_v86 : DevRef τ sig).ty.Contents (Elt F)) = Cert.RefStep.b131 j s := by
  unfold Cert.RefStep.b131
  rw [← al_128 h]
  try rfl
set_option maxRecDepth 8192 in
theorem al_132 (h : Holds V0 s j) : (extractStridedSlice S256x128 ![0, 384] (res_main_while0b_v83 V0) slices_S256x512_S256x128_0_384 : (Proc.devRef .tc main_while0b_v87 : DevRef τ sig).ty.Contents (Elt F)) = Cert.RefStep.b132 j s := by
  unfold Cert.RefStep.b132
  rw [← al_128 h]
  try rfl
set_option maxRecDepth 8192 in
theorem al_133 (h : Holds V0 s j) : (Host.negf (extractStridedSlice S256x128 ![0, 0] (res_main_while0b_v83 V0) slices_S256x512_S256x128_0_0) : (Proc.devRef .tc main_while0b_v88 : DevRef τ sig).ty.Contents (Elt F)) = Cert.RefStep.b133 j s := by
  unfold Cert.RefStep.b133
  rw [← al_129 h]
  try rfl
set_option maxRecDepth 8192 in
theorem al_134 (h : Holds V0 s j) : (Host.exp (Host.negf (extractStridedSlice S256x128 ![0, 0] (res_main_while0b_v83 V0) slices_S256x512_S256x128_0_0)) : (Proc.devRef .tc main_while0b_v89 : DevRef τ sig).ty.Contents (Elt F)) = Cert.RefStep.b134 j s := by
  unfold Cert.RefStep.b134
  rw [← al_133 h]
  try rfl
set_option maxRecDepth 8192 in
theorem al_135 (h : Holds V0 s j) : (constant S_ .f32 0x3F800000#32 : (Proc.devRef .tc main_while0b_cst : DevRef τ sig).ty.Contents (Elt F)) = Cert.RefStep.b135 j s := by
  unfold Cert.RefStep.b135
  rfl
set_option maxRecDepth 8192 in
theorem al_136 (h : Holds V0 s j) : (broadcastInDim S256x128 ![] bcast_S_S256x128 (constant S_ .f32 0x3F800000#32) : (Proc.devRef .tc main_while0b_v90 : DevRef τ sig).ty.Contents (Elt F)) = Cert.RefStep.b136 j s := by
  unfold Cert.RefStep.b136
  rw [← al_135 h]
  try rfl
set_option maxRecDepth 8192 in
theorem al_137 (h : Holds V0 s j) : (addf (broadcastInDim S256x128 ![] bcast_S_S256x128 (constant S_ .f32 0x3F800000#32)) (Host.exp (Host.negf (extractStridedSlice S256x128 ![0, 0] (res_main_while0b_v83 V0) slices_S256x512_S256x128_0_0))) : (Proc.devRef .tc main_while0b_v91 : DevRef τ sig).ty.Contents (Elt F)) = Cert.RefStep.b137 j s := by
  unfold Cert.RefStep.b137
  rw [← al_136 h, ← al_134 h]
  try rfl
set_option maxRecDepth 8192 in
theorem al_138 (h : Holds V0 s j) : (constant S_ .f32 0x3F800000#32 : (Proc.devRef .tc main_while0b_cst_61 : DevRef τ sig).ty.Contents (Elt F)) = Cert.RefStep.b138 j s := by
  unfold Cert.RefStep.b138
  rfl
set_option maxRecDepth 8192 in
theorem al_139 (h : Holds V0 s j) : (broadcastInDim S256x128 ![] bcast_S_S256x128 (constant S_ .f32 0x3F800000#32) : (Proc.devRef .tc main_while0b_v92 : DevRef τ sig).ty.Contents (Elt F)) = Cert.RefStep.b139 j s := by
  unfold Cert.RefStep.b139
  rw [← al_138 h]
  try rfl
set_option maxRecDepth 8192 in
theorem al_140 (h : Holds V0 s j) : (Host.divf (broadcastInDim S256x128 ![] bcast_S_S256x128 (constant S_ .f32 0x3F800000#32)) (addf (broadcastInDim S256x128 ![] bcast_S_S256x128 (constant S_ .f32 0x3F800000#32)) (Host.exp (Host.negf (extractStridedSlice S256x128 ![0, 0] (res_main_while0b_v83 V0) slices_S256x512_S256x128_0_0)))) : (Proc.devRef .tc main_while0b_v93 : DevRef τ sig).ty.Contents (Elt F)) = Cert.RefStep.b140 j s := by
  unfold Cert.RefStep.b140
  rw [← al_139 h, ← al_137 h]
  try rfl
set_option maxRecDepth 8192 in
theorem al_141 (h : Holds V0 s j) : (Host.negf (extractStridedSlice S256x128 ![0, 128] (res_main_while0b_v83 V0) slices_S256x512_S256x128_0_128) : (Proc.devRef .tc main_while0b_v94 : DevRef τ sig).ty.Contents (Elt F)) = Cert.RefStep.b141 j s := by
  unfold Cert.RefStep.b141
  rw [← al_130 h]
  try rfl
set_option maxRecDepth 8192 in
theorem al_142 (h : Holds V0 s j) : (Host.exp (Host.negf (extractStridedSlice S256x128 ![0, 128] (res_main_while0b_v83 V0) slices_S256x512_S256x128_0_128)) : (Proc.devRef .tc main_while0b_v95 : DevRef τ sig).ty.Contents (Elt F)) = Cert.RefStep.b142 j s := by
  unfold Cert.RefStep.b142
  rw [← al_141 h]
  try rfl
set_option maxRecDepth 8192 in
theorem al_143 (h : Holds V0 s j) : (constant S_ .f32 0x3F800000#32 : (Proc.devRef .tc main_while0b_cst_62 : DevRef τ sig).ty.Contents (Elt F)) = Cert.RefStep.b143 j s := by
  unfold Cert.RefStep.b143
  rfl
set_option maxRecDepth 8192 in
theorem al_144 (h : Holds V0 s j) : (broadcastInDim S256x128 ![] bcast_S_S256x128 (constant S_ .f32 0x3F800000#32) : (Proc.devRef .tc main_while0b_v96 : DevRef τ sig).ty.Contents (Elt F)) = Cert.RefStep.b144 j s := by
  unfold Cert.RefStep.b144
  rw [← al_143 h]
  try rfl
set_option maxRecDepth 8192 in
theorem al_145 (h : Holds V0 s j) : (addf (broadcastInDim S256x128 ![] bcast_S_S256x128 (constant S_ .f32 0x3F800000#32)) (Host.exp (Host.negf (extractStridedSlice S256x128 ![0, 128] (res_main_while0b_v83 V0) slices_S256x512_S256x128_0_128))) : (Proc.devRef .tc main_while0b_v97 : DevRef τ sig).ty.Contents (Elt F)) = Cert.RefStep.b145 j s := by
  unfold Cert.RefStep.b145
  rw [← al_144 h, ← al_142 h]
  try rfl
set_option maxRecDepth 8192 in
theorem al_146 (h : Holds V0 s j) : (constant S_ .f32 0x3F800000#32 : (Proc.devRef .tc main_while0b_cst_63 : DevRef τ sig).ty.Contents (Elt F)) = Cert.RefStep.b146 j s := by
  unfold Cert.RefStep.b146
  rfl
set_option maxRecDepth 8192 in
theorem al_147 (h : Holds V0 s j) : (broadcastInDim S256x128 ![] bcast_S_S256x128 (constant S_ .f32 0x3F800000#32) : (Proc.devRef .tc main_while0b_v98 : DevRef τ sig).ty.Contents (Elt F)) = Cert.RefStep.b147 j s := by
  unfold Cert.RefStep.b147
  rw [← al_146 h]
  try rfl
set_option maxRecDepth 8192 in
theorem al_148 (h : Holds V0 s j) : (Host.divf (broadcastInDim S256x128 ![] bcast_S_S256x128 (constant S_ .f32 0x3F800000#32)) (addf (broadcastInDim S256x128 ![] bcast_S_S256x128 (constant S_ .f32 0x3F800000#32)) (Host.exp (Host.negf (extractStridedSlice S256x128 ![0, 128] (res_main_while0b_v83 V0) slices_S256x512_S256x128_0_128)))) : (Proc.devRef .tc main_while0b_v99 : DevRef τ sig).ty.Contents (Elt F)) = Cert.RefStep.b148 j s := by
  unfold Cert.RefStep.b148
  rw [← al_147 h, ← al_145 h]
  try rfl
set_option maxRecDepth 8192 in
theorem al_149 (h : Holds V0 s j) : (Host.tanh (extractStridedSlice S256x128 ![0, 256] (res_main_while0b_v83 V0) slices_S256x512_S256x128_0_256) : (Proc.devRef .tc main_while0b_v100 : DevRef τ sig).ty.Contents (Elt F)) = Cert.RefStep.b149 j s := by
  unfold Cert.RefStep.b149
  rw [← al_131 h]
  try rfl
set_option maxRecDepth 8192 in
theorem al_150 (h : Holds V0 s j) : (Host.negf (extractStridedSlice S256x128 ![0, 384] (res_main_while0b_v83 V0) slices_S256x512_S256x128_0_384) : (Proc.devRef .tc main_while0b_v101 : DevRef τ sig).ty.Contents (Elt F)) = Cert.RefStep.b150 j s := by
  unfold Cert.RefStep.b150
  rw [← al_132 h]
  try rfl
set_option maxRecDepth 8192 in
theorem al_151 (h : Holds V0 s j) : (Host.exp (Host.negf (extractStridedSlice S256x128 ![0, 384] (res_main_while0b_v83 V0) slices_S256x512_S256x128_0_384)) : (Proc.devRef .tc main_while0b_v102 : DevRef τ sig).ty.Contents (Elt F)) = Cert.RefStep.b151 j s := by
  unfold Cert.RefStep.b151
  rw [← al_150 h]
  try rfl
set_option maxRecDepth 8192 in
theorem al_152 (h : Holds V0 s j) : (constant S_ .f32 0x3F800000#32 : (Proc.devRef .tc main_while0b_cst_64 : DevRef τ sig).ty.Contents (Elt F)) = Cert.RefStep.b152 j s := by
  unfold Cert.RefStep.b152
  rfl
set_option maxRecDepth 8192 in
theorem al_153 (h : Holds V0 s j) : (broadcastInDim S256x128 ![] bcast_S_S256x128 (constant S_ .f32 0x3F800000#32) : (Proc.devRef .tc main_while0b_v103 : DevRef τ sig).ty.Contents (Elt F)) = Cert.RefStep.b153 j s := by
  unfold Cert.RefStep.b153
  rw [← al_152 h]
  try rfl
set_option maxRecDepth 8192 in
theorem al_154 (h : Holds V0 s j) : (addf (broadcastInDim S256x128 ![] bcast_S_S256x128 (constant S_ .f32 0x3F800000#32)) (Host.exp (Host.negf (extractStridedSlice S256x128 ![0, 384] (res_main_while0b_v83 V0) slices_S256x512_S256x128_0_384))) : (Proc.devRef .tc main_while0b_v104 : DevRef τ sig).ty.Contents (Elt F)) = Cert.RefStep.b154 j s := by
  unfold Cert.RefStep.b154
  rw [← al_153 h, ← al_151 h]
  try rfl
set_option maxRecDepth 8192 in
theorem al_155 (h : Holds V0 s j) : (constant S_ .f32 0x3F800000#32 : (Proc.devRef .tc main_while0b_cst_65 : DevRef τ sig).ty.Contents (Elt F)) = Cert.RefStep.b155 j s := by
  unfold Cert.RefStep.b155
  rfl
set_option maxRecDepth 8192 in
theorem al_156 (h : Holds V0 s j) : (broadcastInDim S256x128 ![] bcast_S_S256x128 (constant S_ .f32 0x3F800000#32) : (Proc.devRef .tc main_while0b_v105 : DevRef τ sig).ty.Contents (Elt F)) = Cert.RefStep.b156 j s := by
  unfold Cert.RefStep.b156
  rw [← al_155 h]
  try rfl
set_option maxRecDepth 8192 in
theorem al_157 (h : Holds V0 s j) : (Host.divf (broadcastInDim S256x128 ![] bcast_S_S256x128 (constant S_ .f32 0x3F800000#32)) (addf (broadcastInDim S256x128 ![] bcast_S_S256x128 (constant S_ .f32 0x3F800000#32)) (Host.exp (Host.negf (extractStridedSlice S256x128 ![0, 384] (res_main_while0b_v83 V0) slices_S256x512_S256x128_0_384)))) : (Proc.devRef .tc main_while0b_v106 : DevRef τ sig).ty.Contents (Elt F)) = Cert.RefStep.b157 j s := by
  unfold Cert.RefStep.b157
  rw [← al_156 h, ← al_154 h]
  try rfl
set_option maxRecDepth 8192 in
theorem al_158 (h : Holds V0 s j) : (mulf (Host.divf (broadcastInDim S256x128 ![] bcast_S_S256x128 (constant S_ .f32 0x3F800000#32)) (addf (broadcastInDim S256x128 ![] bcast_S_S256x128 (constant S_ .f32 0x3F800000#32)) (Host.exp (Host.negf (extractStridedSlice S256x128 ![0, 128] (res_main_while0b_v83 V0) slices_S256x512_S256x128_0_128))))) (Host.gather gather_S256x128_S256x1_S256x128_1_0_n_n_0_1_1128 (V0 (Proc.devRef .tc main_v0_17)) (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0)))) : (Proc.devRef .tc main_while0b_v107 : DevRef τ sig).ty.Contents (Elt F)) = Cert.RefStep.b158 j s := by
  unfold Cert.RefStep.b158
  rw [← al_148 h, ← al_68 h]
  try rfl
set_option maxRecDepth 8192 in
theorem al_159 (h : Holds V0 s j) : (mulf (Host.divf (broadcastInDim S256x128 ![] bcast_S_S256x128 (constant S_ .f32 0x3F800000#32)) (addf (broadcastInDim S256x128 ![] bcast_S_S256x128 (constant S_ .f32 0x3F800000#32)) (Host.exp (Host.negf (extractStridedSlice S256x128 ![0, 0] (res_main_while0b_v83 V0) slices_S256x512_S256x128_0_0))))) (Host.tanh (extractStridedSlice S256x128 ![0, 256] (res_main_while0b_v83 V0) slices_S256x512_S256x128_0_256)) : (Proc.devRef .tc main_while0b_v108 : DevRef τ sig).ty.Contents (Elt F)) = Cert.RefStep.b159 j s := by
  unfold Cert.RefStep.b159
  rw [← al_140 h, ← al_149 h]
  try rfl
set_option maxRecDepth 8192 in
theorem al_160 (h : Holds V0 s j) : (res_main_while0b_v109 V0 : (Proc.devRef .tc main_while0b_v109 : DevRef τ sig).ty.Contents (Elt F)) = Cert.RefStep.b160 j s := by
  unfold res_main_while0b_v109 Cert.RefStep.b160
  rw [← al_158 h, ← al_159 h]
  try rfl
set_option maxRecDepth 8192 in
theorem al_161 (h : Holds V0 s j) : (Host.tanh (res_main_while0b_v109 V0) : (Proc.devRef .tc main_while0b_v110 : DevRef τ sig).ty.Contents (Elt F)) = Cert.RefStep.b161 j s := by
  unfold Cert.RefStep.b161
  rw [← al_160 h]
  try rfl
set_option maxRecDepth 8192 in
theorem al_162 (h : Holds V0 s j) : (res_main_while0b_v111 V0 : (Proc.devRef .tc main_while0b_v111 : DevRef τ sig).ty.Contents (Elt F)) = Cert.RefStep.b162 j s := by
  unfold res_main_while0b_v111 Cert.RefStep.b162
  rw [← al_157 h, ← al_161 h]
  try rfl
set_option maxRecDepth 8192 in
theorem al_163 (h : Holds V0 s j) : (transpose S128x5 [1, 0] (V0 (Proc.devRef .tc main_v0_11)) transposes_S5x128_S128x5_1_0 : (Proc.devRef .tc main_while0b_v112 : DevRef τ sig).ty.Contents (Elt F)) = Cert.RefStep.b163 j s := by
  unfold Cert.RefStep.b163
  rw [h.f_11]
  try rfl
set_option maxRecDepth 8192 in
theorem al_164 (h : Holds V0 s j) : (Host.dotGeneral dot_S256x128_S128x5_S256x5_1_0_0_1_n_n none (res_main_while0b_v111 V0) (transpose S128x5 [1, 0] (V0 (Proc.devRef .tc main_v0_11)) transposes_S5x128_S128x5_1_0) : (Proc.devRef .tc main_while0b_v113 : DevRef τ sig).ty.Contents (Elt F)) = Cert.RefStep.b164 j s := by
  unfold Cert.RefStep.b164
  rw [← al_162 h, ← al_163 h]
  try rfl
set_option maxRecDepth 8192 in
theorem al_165 (h : Holds V0 s j) : (broadcastInDim S1x5 ![1] bcast_S5_S1x5_1 (V0 (Proc.devRef .tc main_v0_12)) : (Proc.devRef .tc main_while0b_v114 : DevRef τ sig).ty.Contents (Elt F)) = Cert.RefStep.b165 j s := by
  unfold Cert.RefStep.b165
  rw [h.f_12]
  try rfl
set_option maxRecDepth 8192 in
theorem al_166 (h : Holds V0 s j) : (broadcastInDim S256x5 ![0, 1] bcast_S1x5_S256x5_0_1 (broadcastInDim S1x5 ![1] bcast_S5_S1x5_1 (V0 (Proc.devRef .tc main_v0_12))) : (Proc.devRef .tc main_while0b_v115 : DevRef τ sig).ty.Contents (Elt F)) = Cert.RefStep.b166 j s := by
  unfold Cert.RefStep.b166
  rw [← al_165 h]
  try rfl
set_option maxRecDepth 8192 in
theorem al_167 (h : Holds V0 s j) : (addf (Host.dotGeneral dot_S256x128_S128x5_S256x5_1_0_0_1_n_n none (res_main_while0b_v111 V0) (transpose S128x5 [1, 0] (V0 (Proc.devRef .tc main_v0_11)) transposes_S5x128_S128x5_1_0)) (broadcastInDim S256x5 ![0, 1] bcast_S1x5_S256x5_0_1 (broadcastInDim S1x5 ![1] bcast_S5_S1x5_1 (V0 (Proc.devRef .tc main_v0_12)))) : (Proc.devRef .tc main_while0b_v116 : DevRef τ sig).ty.Contents (Elt F)) = Cert.RefStep.b167 j s := by
  unfold Cert.RefStep.b167
  rw [← al_164 h, ← al_166 h]
  try rfl
set_option maxRecDepth 8192 in
theorem al_168 (h : Holds V0 s j) : (constantI S_ 32 256#32 : (Proc.devRef .tc main_while0b_c_66 : DevRef τ sig).ty.Contents (Elt F)) = Cert.RefStep.b168 j s := by
  unfold Cert.RefStep.b168
  rfl
set_option maxRecDepth 8192 in
theorem al_169 (h : Holds V0 s j) : (muli (V0 (Proc.devRef .tc main_v0_14)) (constantI S_ 32 256#32) : (Proc.devRef .tc main_while0b_v117 : DevRef τ sig).ty.Contents (Elt F)) = Cert.RefStep.b169 j s := by
  unfold Cert.RefStep.b169
  rw [← al_168 h, h.n_14]
  try rfl
set_option maxRecDepth 8192 in
theorem al_170 (h : Holds V0 s j) : (id (muli (V0 (Proc.devRef .tc main_v0_14)) (constantI S_ 32 256#32)) : (Proc.devRef .tc main_while0b_v118 : DevRef τ sig).ty.Contents (Elt F)) = Cert.RefStep.b170 j s := by
  unfold Cert.RefStep.b170
  rw [← al_169 h]
  try rfl
set_option maxRecDepth 8192 in
theorem al_171 (h : Holds V0 s j) : (broadcastInDim S256 ![] bcast_S_S256 (id (muli (V0 (Proc.devRef .tc main_v0_14)) (constantI S_ 32 256#32))) : (Proc.devRef .tc main_while0b_v119 : DevRef τ sig).ty.Contents (Elt F)) = Cert.RefStep.b171 j s := by
  unfold Cert.RefStep.b171
  rw [← al_170 h]
  try rfl
set_option maxRecDepth 8192 in
theorem al_172 (h : Holds V0 s j) : (res_main_while0b_v120 V0 : (Proc.devRef .tc main_while0b_v120 : DevRef τ sig).ty.Contents (Elt F)) = Cert.RefStep.b172 j s := by
  unfold res_main_while0b_v120 Cert.RefStep.b172
  rw [← al_171 h, ← al_17 h]
  try rfl
set_option maxRecDepth 8192 in
theorem al_173 (h : Holds V0 s j) : (constantI S_ 32 0#32 : (Proc.devRef .tc main_while0b_c_67 : DevRef τ sig).ty.Contents (Elt F)) = Cert.RefStep.b173 j s := by
  unfold Cert.RefStep.b173
  rfl
set_option maxRecDepth 8192 in
theorem al_174 (h : Holds V0 s j) : (broadcastInDim S256 ![] bcast_S_S256 (constantI S_ 32 0#32) : (Proc.devRef .tc main_while0b_v121 : DevRef τ sig).ty.Contents (Elt F)) = Cert.RefStep.b174 j s := by
  unfold Cert.RefStep.b174
  rw [← al_173 h]
  try rfl
set_option maxRecDepth 8192 in
theorem al_175 (h : Holds V0 s j) : (cmpi .slt (res_main_while0b_v120 V0) (broadcastInDim S256 ![] bcast_S_S256 (constantI S_ 32 0#32)) : (Proc.devRef .tc main_while0b_v122 : DevRef τ sig).ty.Contents (Elt F)) = Cert.RefStep.b175 j s := by
  unfold Cert.RefStep.b175
  rw [← al_172 h, ← al_174 h]
  try rfl
set_option maxRecDepth 8192 in
theorem al_176 (h : Holds V0 s j) : (constantI S_ 32 5120#32 : (Proc.devRef .tc main_while0b_c_68 : DevRef τ sig).ty.Contents (Elt F)) = Cert.RefStep.b176 j s := by
  unfold Cert.RefStep.b176
  rfl
set_option maxRecDepth 8192 in
theorem al_177 (h : Holds V0 s j) : (broadcastInDim S256 ![] bcast_S_S256 (constantI S_ 32 5120#32) : (Proc.devRef .tc main_while0b_v123 : DevRef τ sig).ty.Contents (Elt F)) = Cert.RefStep.b177 j s := by
  unfold Cert.RefStep.b177
  rw [← al_176 h]
  try rfl
set_option maxRecDepth 8192 in
theorem al_178 (h : Holds V0 s j) : (addi (res_main_while0b_v120 V0) (broadcastInDim S256 ![] bcast_S_S256 (constantI S_ 32 5120#32)) : (Proc.devRef .tc main_while0b_v124 : DevRef τ sig).ty.Contents (Elt F)) = Cert.RefStep.b178 j s := by
  unfold Cert.RefStep.b178
  rw [← al_172 h, ← al_177 h]
  try rfl
set_option maxRecDepth 8192 in
theorem al_179 (h : Holds V0 s j) : (select (cmpi .slt (res_main_while0b_v120 V0) (broadcastInDim S256 ![] bcast_S_S256 (constantI S_ 32 0#32))) (addi (res_main_while0b_v120 V0) (broadcastInDim S256 ![] bcast_S_S256 (constantI S_ 32 5120#32))) (res_main_while0b_v120 V0) : (Proc.devRef .tc main_while0b_v125 : DevRef τ sig).ty.Contents (Elt F)) = Cert.RefStep.b179 j s := by
  unfold Cert.RefStep.b179
  rw [← al_175 h, ← al_178 h, ← al_172 h]
  try rfl
set_option maxRecDepth 8192 in
theorem al_180 (h : Holds V0 s j) : (broadcastInDim S256x1 ![0] bcast_S256_S256x1_0 (select (cmpi .slt (res_main_while0b_v120 V0) (broadcastInDim S256 ![] bcast_S_S256 (constantI S_ 32 0#32))) (addi (res_main_while0b_v120 V0) (broadcastInDim S256 ![] bcast_S_S256 (constantI S_ 32 5120#32))) (res_main_while0b_v120 V0)) : (Proc.devRef .tc main_while0b_v126 : DevRef τ sig).ty.Contents (Elt F)) = Cert.RefStep.b180 j s := by
  unfold Cert.RefStep.b180
  rw [← al_179 h]
  try rfl
set_option maxRecDepth 8192 in
theorem al_181 (h : Holds V0 s j) : (Host.scatter scatter_S5120x5_S256x1_S256x5_1_0_0_1 (fun _ b => b) (V0 (Proc.devRef .tc main_v0_15)) (broadcastInDim S256x1 ![0] bcast_S256_S256x1_0 (select (cmpi .slt (res_main_while0b_v120 V0) (broadcastInDim S256 ![] bcast_S_S256 (constantI S_ 32 0#32))) (addi (res_main_while0b_v120 V0) (broadcastInDim S256 ![] bcast_S_S256 (constantI S_ 32 5120#32))) (res_main_while0b_v120 V0))) (addf (Host.dotGeneral dot_S256x128_S128x5_S256x5_1_0_0_1_n_n none (res_main_while0b_v111 V0) (transpose S128x5 [1, 0] (V0 (Proc.devRef .tc main_v0_11)) transposes_S5x128_S128x5_1_0)) (broadcastInDim S256x5 ![0, 1] bcast_S1x5_S256x5_0_1 (broadcastInDim S1x5 ![1] bcast_S5_S1x5_1 (V0 (Proc.devRef .tc main_v0_12))))) : (Proc.devRef .tc main_while0b_v127 : DevRef τ sig).ty.Contents (Elt F)) = Cert.RefStep.b181 j s := by
  unfold Cert.RefStep.b181
  rw [← al_180 h, ← al_167 h, h.f_15]
  try rfl
set_option maxRecDepth 8192 in
theorem al_182 (h : Holds V0 s j) : (constantI S_ 32 0#32 : (Proc.devRef .tc main_while0b_c_69 : DevRef τ sig).ty.Contents (Elt F)) = Cert.RefStep.b182 j s := by
  unfold Cert.RefStep.b182
  rfl
set_option maxRecDepth 8192 in
theorem al_183 (h : Holds V0 s j) : (broadcastInDim S256 ![] bcast_S_S256 (constantI S_ 32 0#32) : (Proc.devRef .tc main_while0b_v128 : DevRef τ sig).ty.Contents (Elt F)) = Cert.RefStep.b183 j s := by
  unfold Cert.RefStep.b183
  rw [← al_182 h]
  try rfl
set_option maxRecDepth 8192 in
theorem al_184 (h : Holds V0 s j) : (cmpi .slt (res_main_while0b_v11 V0) (broadcastInDim S256 ![] bcast_S_S256 (constantI S_ 32 0#32)) : (Proc.devRef .tc main_while0b_v129 : DevRef τ sig).ty.Contents (Elt F)) = Cert.RefStep.b184 j s := by
  unfold Cert.RefStep.b184
  rw [← al_17 h, ← al_183 h]
  try rfl
set_option maxRecDepth 8192 in
theorem al_185 (h : Holds V0 s j) : (constantI S_ 32 256#32 : (Proc.devRef .tc main_while0b_c_70 : DevRef τ sig).ty.Contents (Elt F)) = Cert.RefStep.b185 j s := by
  unfold Cert.RefStep.b185
  rfl
set_option maxRecDepth 8192 in
theorem al_186 (h : Holds V0 s j) : (broadcastInDim S256 ![] bcast_S_S256 (constantI S_ 32 256#32) : (Proc.devRef .tc main_while0b_v130 : DevRef τ sig).ty.Contents (Elt F)) = Cert.RefStep.b186 j s := by
  unfold Cert.RefStep.b186
  rw [← al_185 h]
  try rfl
set_option maxRecDepth 8192 in
theorem al_187 (h : Holds V0 s j) : (addi (res_main_while0b_v11 V0) (broadcastInDim S256 ![] bcast_S_S256 (constantI S_ 32 256#32)) : (Proc.devRef .tc main_while0b_v131 : DevRef τ sig).ty.Contents (Elt F)) = Cert.RefStep.b187 j s := by
  unfold Cert.RefStep.b187
  rw [← al_17 h, ← al_186 h]
  try rfl
set_option maxRecDepth 8192 in
theorem al_188 (h : Holds V0 s j) : (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0) : (Proc.devRef .tc main_while0b_v132 : DevRef τ sig).ty.Contents (Elt F)) = Cert.RefStep.b188 j s := by
  unfold Cert.RefStep.b188
  rw [← al_184 h, ← al_187 h, ← al_17 h]
  try rfl
set_option maxRecDepth 8192 in
theorem al_189 (h : Holds V0 s j) : (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0)) : (Proc.devRef .tc main_while0b_v133 : DevRef τ sig).ty.Contents (Elt F)) = Cert.RefStep.b189 j s := by
  unfold Cert.RefStep.b189
  rw [← al_188 h]
  try rfl
set_option maxRecDepth 8192 in
theorem al_190 (h : Holds V0 s j) : (Host.scatter scatter_S256x128_S256x1_S256x128_1_0_0_1 (fun _ b => b) (V0 (Proc.devRef .tc main_v0_16)) (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0))) (res_main_while0b_v111 V0) : (Proc.devRef .tc main_while0b_v134 : DevRef τ sig).ty.Contents (Elt F)) = Cert.RefStep.b190 j s := by
  unfold Cert.RefStep.b190
  rw [← al_189 h, ← al_162 h, h.f_16]
  try rfl
set_option maxRecDepth 8192 in
theorem al_191 (h : Holds V0 s j) : (constantI S_ 32 0#32 : (Proc.devRef .tc main_while0b_c_71 : DevRef τ sig).ty.Contents (Elt F)) = Cert.RefStep.b191 j s := by
  unfold Cert.RefStep.b191
  rfl
set_option maxRecDepth 8192 in
theorem al_192 (h : Holds V0 s j) : (broadcastInDim S256 ![] bcast_S_S256 (constantI S_ 32 0#32) : (Proc.devRef .tc main_while0b_v135 : DevRef τ sig).ty.Contents (Elt F)) = Cert.RefStep.b192 j s := by
  unfold Cert.RefStep.b192
  rw [← al_191 h]
  try rfl
set_option maxRecDepth 8192 in
theorem al_193 (h : Holds V0 s j) : (cmpi .slt (res_main_while0b_v11 V0) (broadcastInDim S256 ![] bcast_S_S256 (constantI S_ 32 0#32)) : (Proc.devRef .tc main_while0b_v136 : DevRef τ sig).ty.Contents (Elt F)) = Cert.RefStep.b193 j s := by
  unfold Cert.RefStep.b193
  rw [← al_17 h, ← al_192 h]
  try rfl
set_option maxRecDepth 8192 in
theorem al_194 (h : Holds V0 s j) : (constantI S_ 32 256#32 : (Proc.devRef .tc main_while0b_c_72 : DevRef τ sig).ty.Contents (Elt F)) = Cert.RefStep.b194 j s := by
  unfold Cert.RefStep.b194
  rfl
set_option maxRecDepth 8192 in
theorem al_195 (h : Holds V0 s j) : (broadcastInDim S256 ![] bcast_S_S256 (constantI S_ 32 256#32) : (Proc.devRef .tc main_while0b_v137 : DevRef τ sig).ty.Contents (Elt F)) = Cert.RefStep.b195 j s := by
  unfold Cert.RefStep.b195
  rw [← al_194 h]
  try rfl
set_option maxRecDepth 8192 in
theorem al_196 (h : Holds V0 s j) : (addi (res_main_while0b_v11 V0) (broadcastInDim S256 ![] bcast_S_S256 (constantI S_ 32 256#32)) : (Proc.devRef .tc main_while0b_v138 : DevRef τ sig).ty.Contents (Elt F)) = Cert.RefStep.b196 j s := by
  unfold Cert.RefStep.b196
  rw [← al_17 h, ← al_195 h]
  try rfl
set_option maxRecDepth 8192 in
theorem al_197 (h : Holds V0 s j) : (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0) : (Proc.devRef .tc main_while0b_v139 : DevRef τ sig).ty.Contents (Elt F)) = Cert.RefStep.b197 j s := by
  unfold Cert.RefStep.b197
  rw [← al_193 h, ← al_196 h, ← al_17 h]
  try rfl
set_option maxRecDepth 8192 in
theorem al_198 (h : Holds V0 s j) : (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0)) : (Proc.devRef .tc main_while0b_v140 : DevRef τ sig).ty.Contents (Elt F)) = Cert.RefStep.b198 j s := by
  unfold Cert.RefStep.b198
  rw [← al_197 h]
  try rfl
set_option maxRecDepth 8192 in
theorem al_199 (h : Holds V0 s j) : (Host.scatter scatter_S256x128_S256x1_S256x128_1_0_0_1 (fun _ b => b) (V0 (Proc.devRef .tc main_v0_17)) (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0))) (res_main_while0b_v109 V0) : (Proc.devRef .tc main_while0b_v141 : DevRef τ sig).ty.Contents (Elt F)) = Cert.RefStep.b199 j s := by
  unfold Cert.RefStep.b199
  rw [← al_198 h, ← al_160 h, h.f_17]
  try rfl

/-! One trip's step of the carried values is `step`, field by field; a counter steps to the next number. -/

theorem step_15 (h : Holds V0 s j) : step_main_v0_15 V0 = (step j s).main_v0_15 := by
  rw [Cert.RefStep.step_main_v0_15]
  unfold step_main_v0_15
  show id (Host.scatter scatter_S5120x5_S256x1_S256x5_1_0_0_1 (fun _ b => b) (V0 (Proc.devRef .tc main_v0_15)) (broadcastInDim S256x1 ![0] bcast_S256_S256x1_0 (select (cmpi .slt (res_main_while0b_v120 V0) (broadcastInDim S256 ![] bcast_S_S256 (constantI S_ 32 0#32))) (addi (res_main_while0b_v120 V0) (broadcastInDim S256 ![] bcast_S_S256 (constantI S_ 32 5120#32))) (res_main_while0b_v120 V0))) (addf (Host.dotGeneral dot_S256x128_S128x5_S256x5_1_0_0_1_n_n none (res_main_while0b_v111 V0) (transpose S128x5 [1, 0] (V0 (Proc.devRef .tc main_v0_11)) transposes_S5x128_S128x5_1_0)) (broadcastInDim S256x5 ![0, 1] bcast_S1x5_S256x5_0_1 (broadcastInDim S1x5 ![1] bcast_S5_S1x5_1 (V0 (Proc.devRef .tc main_v0_12)))))) = _
  exact (id_eq _).trans (al_181 h)
theorem step_16 (h : Holds V0 s j) : step_main_v0_16 V0 = (step j s).main_v0_16 := by
  rw [Cert.RefStep.step_main_v0_16]
  unfold step_main_v0_16
  show id (Host.scatter scatter_S256x128_S256x1_S256x128_1_0_0_1 (fun _ b => b) (V0 (Proc.devRef .tc main_v0_16)) (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0))) (res_main_while0b_v111 V0)) = _
  exact (id_eq _).trans (al_190 h)
theorem step_17 (h : Holds V0 s j) : step_main_v0_17 V0 = (step j s).main_v0_17 := by
  rw [Cert.RefStep.step_main_v0_17]
  unfold step_main_v0_17
  show id (Host.scatter scatter_S256x128_S256x1_S256x128_1_0_0_1 (fun _ b => b) (V0 (Proc.devRef .tc main_v0_17)) (broadcastInDim S256x1 ![0] bcast_S256_S256x1_0 (select (cmpi .slt (res_main_while0b_v11 V0) (broadcastInDim S256 ![] bcast_S_S256 (constantI S_ 32 0#32))) (addi (res_main_while0b_v11 V0) (broadcastInDim S256 ![] bcast_S_S256 (constantI S_ 32 256#32))) (res_main_while0b_v11 V0))) (res_main_while0b_v109 V0)) = _
  exact (id_eq _).trans (al_199 h)
theorem step_13 (h : Holds V0 s j) : step_main_v0_13 V0 = constantI S_ 32 (BitVec.ofNat 32 (j + 1)) := by
  unfold step_main_v0_13
  rw [h.n_13]
  funext i
  show BitVec.ofNat 32 j + 1#32 = BitVec.ofNat 32 (j + 1)
  simp only [BitVec.ofNat_add]
theorem step_14 (h : Holds V0 s j) : step_main_v0_14 V0 = constantI S_ 32 (BitVec.ofNat 32 (j + 1)) := by
  unfold step_main_v0_14
  rw [h.n_14]
  funext i
  show BitVec.ofNat 32 j + 1#32 = BitVec.ofNat 32 (j + 1)
  simp only [BitVec.ofNat_add]

set_option maxRecDepth 8192 in
theorem out_main_v1_holds (h : Holds V0 s j) : out_main_v1 V0 = Cert.RefStep.R_main_v1 s := by
  unfold out_main_v1 Cert.RefStep.R_main_v1
  rw [h.f_15]
  try rfl

/-- One trip keeps the valuation holding: `step` of the state, the same set-up values, the next number. -/
theorem holds_step (h : Holds V0 s j) : Holds (STEP V0) (step j s) (j + 1) where
  f_15 := (STEP_main_v0_15 V0).trans (step_15 h)
  f_16 := (STEP_main_v0_16 V0).trans (step_16 h)
  f_17 := (STEP_main_v0_17 V0).trans (step_17 h)
  n_13 := (STEP_main_v0_13 V0).trans (step_13 h)
  n_14 := (STEP_main_v0_14 V0).trans (step_14 h)
  f_0 := (STEP_main_v0_0 V0).trans h.f_0
  f_1 := (STEP_main_v0_1 V0).trans h.f_1
  f_2 := (STEP_main_v0_2 V0).trans h.f_2
  f_3 := (STEP_main_v0_3 V0).trans h.f_3
  f_4 := (STEP_main_v0_4 V0).trans h.f_4
  f_5 := (STEP_main_v0_5 V0).trans h.f_5
  f_6 := (STEP_main_v0_6 V0).trans h.f_6
  f_7 := (STEP_main_v0_7 V0).trans h.f_7
  f_8 := (STEP_main_v0_8 V0).trans h.f_8
  f_9 := (STEP_main_v0_9 V0).trans h.f_9
  f_10 := (STEP_main_v0_10 V0).trans h.f_10
  f_11 := (STEP_main_v0_11 V0).trans h.f_11
  f_12 := (STEP_main_v0_12 V0).trans h.f_12

/-- The state the first trip starts from, of the memory the run starts from. -/
abbrev initState (m : (ℓ : Loc nD τ sig) → Buf (Elt F) ℓ) (c : Dev nD) : State F :=
  init (m ((c.tc : Thread nD τ).loc main_arg3)) (m ((c.tc : Thread nD τ).loc main_arg1)) (m ((c.tc : Thread nD τ).loc main_arg2)) (m ((c.tc : Thread nD τ).loc main_arg5)) (m ((c.tc : Thread nD τ).loc main_arg0)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 20 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v1) = Cert.RefStep.R_main_v1 (it c 20)
      ∧ r.2.mem ((c.tc : Thread nD τ).loc main_v0_16) = (it c 20).main_v0_16
      ∧ r.2.mem ((c.tc : Thread nD τ).loc main_v0_17) = (it c 20).main_v0_17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    have hk := holds_iter m c (it c) (h0 c) (hs c) 20
    ⟨(h c).1.trans (out_main_v1_holds hk), (h c).2.1.trans hk.f_16, (h c).2.2.1.trans hk.f_17, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2⟩) (Value.run m ρ)

end Cert.RefStepRun

end
-- ==== Proof.Same.lean ====
/- The value claim: from memories that agree on the arguments, and with ids that permute every frame's rows, the kernel and
   the reference end with the same three results. -/
module

public import proofs.«01_k».proof.Defs
public import proofs.«01_k».proof.Proof.Gen.Pre_rows_permute
public import proofs.«01_k».proof.Proof.Results
public import proofs.«01_k».proof.Proof.RefStepRun

@[expose] public section

set_option maxRecDepth 16384

noncomputable section

namespace Cert.Same

open Idealize.ShloMosaic Idealize.ShloMosaic.TcCoe Idealize.SL.Sem
open Cert.KernelIdeal Cert.KernelIdeal.Gen
open Cert.RefStep (State step R_main_v1)

/-- The reference's states on one device, from the state it starts in. -/
def states (m' : (ℓ : Loc Cert.ReferenceIdeal.nD Cert.ReferenceIdeal.τ Cert.ReferenceIdeal.sig) → Buf (Elt Ideal) ℓ)
    (c : Dev Cert.ReferenceIdeal.nD) : ℕ → State Ideal
  | 0 => Cert.RefStepRun.initState m' c
  | n + 1 => step n (states m' c n)

/-- The kernel and the reference compute the same three arrays. -/
theorem algebraic : Cert.algebraic_KernelIdeal_ReferenceIdeal_pre_rows_permute (hKernelIdeal := Cert.KernelIdeal.Gen.facts)
    (hReferenceIdeal := Cert.ReferenceIdeal.Gen.facts) (hPre_rows_permute := Cert.Pre_rows_permute.Gen.facts) := by
  intro m g m' g' hpre hargs
  have runs : ∀ c : Dev nD, Cert.Frames.Runs m c (states m' c) := fun c => by
    obtain ⟨h0, h1, h2, h3, h4, h5, h6, h7, h8, h9, h10, h11, h12, h13, h14, h15⟩ := hargs c
    exact ⟨⟨h5, h0, h4, h6, h7, h8, h9, h10, h11, h12, h13, h14, h15⟩, h1, h2, fun n => rfl⟩
  refine ⟨fun c => R_main_v1 (states m' c 20), fun c => (states m' c 20).main_v0_16, fun c => (states m' c 20).main_v0_17, ?_, ?_⟩
  · refine (θ_run _ _ _).mono (fun r h c => ?_) (Cert.KernelIdeal.Value.run_blocks (F := Ideal) m g)
    obtain ⟨nd, pos, P⟩ := Cert.Perm.exists_perm _ _ _ _ _ _ _ _ _ _ _ _ _ _ _ _ (hpre c)
    exact ⟨(h c).1.trans (Cert.Results.out_eq (runs c) P), (h c).2.1.trans (Cert.Results.hidden_eq_ref (runs c) P),
      (h c).2.2.1.trans (Cert.Results.cell_eq_ref (runs c) P), (h c).2.2.2⟩
  · exact Cert.RefStepRun.run_iter (F := Ideal) m' g' (states m') (fun c => rfl) (fun c n => rfl)

end Cert.Same

end
-- ==== Proof.lean ====
module

public import proofs.«01_k».proof.Defs
public import proofs.«01_k».proof.Proof.Same
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_rows_permute
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged; it has no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Every claim: the kernel's frames at both kinds of floats, the reference's, the operations kept, and the same results. -/
theorem claim : Cert.Claim := ⟨Cert.Kernel.Gen.facts, Cert.KernelIdeal.Gen.facts, Cert.ReferenceIdeal.Gen.facts, Cert.Pre_rows_permute.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial,
  Cert.Same.algebraic⟩

end Cert.Proof

end
